-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_empty [hPre_finite_empty : Cert.Pre_finite_empty.Facts] (m : (ℓ : Loc Cert.KernelIdeal.nD Cert.KernelIdeal.τ Cert.KernelIdeal.sig) → Buf (Elt Ideal) ℓ) : Prop :=
  ∀ c : Dev Cert.KernelIdeal.nD,
    (Cert.Pre_finite_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_empty [hPre_finite_empty : Cert.Pre_finite_empty.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Call (m : (ℓ : Loc Cert.Call.nD Cert.Call.τ Cert.Call.sig) → Buf (Elt Bits) ℓ) : Prop :=
  True

def Pre_CallIdeal (m : (ℓ : Loc Cert.CallIdeal.nD Cert.CallIdeal.τ Cert.CallIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_empty [hKernelIdeal : Cert.KernelIdeal.Facts] [hPre_finite_empty : Cert.Pre_finite_empty.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_empty m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_empty [hReferenceIdeal : Cert.ReferenceIdeal.Facts] [hPre_finite_empty : Cert.Pre_finite_empty.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_empty m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Call [hCall : Cert.Call.Facts] : Prop :=
  ∀ (m : (ℓ : Loc Cert.Call.nD Cert.Call.τ Cert.Call.sig) → Buf (Elt Bits) ℓ) (g : Dev Cert.Call.nD → PrngReg), Pre_Call m →
    θ_run (Cert.Call.defs (F := Bits)) (onTc (τ := Cert.Call.τ) (Cert.Call.main (F := Bits))) ⟨m, fun _ => 0, g⟩ (fun r => (∀ c : Dev Cert.Call.nD,
      r.2.mem ((c.tc : Thread Cert.Call.nD Cert.Call.τ).loc Cert.Call.main_arg0) = m ((c.tc : Thread Cert.Call.nD Cert.Call.τ).loc Cert.Call.main_arg0)
      ∧ r.2.mem ((c.tc : Thread Cert.Call.nD Cert.Call.τ).loc Cert.Call.main_arg1) = m ((c.tc : Thread Cert.Call.nD Cert.Call.τ).loc Cert.Call.main_arg1)
      ∧ r.2.mem ((c.tc : Thread Cert.Call.nD Cert.Call.τ).loc Cert.Call.main_arg2) = m ((c.tc : Thread Cert.Call.nD Cert.Call.τ).loc Cert.Call.main_arg2)
      ∧ r.2.mem ((c.tc : Thread Cert.Call.nD Cert.Call.τ).loc Cert.Call.main_arg3) = m ((c.tc : Thread Cert.Call.nD Cert.Call.τ).loc Cert.Call.main_arg3)
      ∧ r.2.mem ((c.tc : Thread Cert.Call.nD Cert.Call.τ).loc Cert.Call.main_arg4) = m ((c.tc : Thread Cert.Call.nD Cert.Call.τ).loc Cert.Call.main_arg4)
      ∧ r.2.mem ((c.tc : Thread Cert.Call.nD Cert.Call.τ).loc Cert.Call.main_arg5) = m ((c.tc : Thread Cert.Call.nD Cert.Call.τ).loc Cert.Call.main_arg5)
      ∧ r.2.mem ((c.tc : Thread Cert.Call.nD Cert.Call.τ).loc Cert.Call.main_arg6) = m ((c.tc : Thread Cert.Call.nD Cert.Call.τ).loc Cert.Call.main_arg6)
      ∧ r.2.mem ((c.tc : Thread Cert.Call.nD Cert.Call.τ).loc Cert.Call.main_arg7) = m ((c.tc : Thread Cert.Call.nD Cert.Call.τ).loc Cert.Call.main_arg7)
      ∧ r.2.mem ((c.tc : Thread Cert.Call.nD Cert.Call.τ).loc Cert.Call.main_arg8) = m ((c.tc : Thread Cert.Call.nD Cert.Call.τ).loc Cert.Call.main_arg8)
      ∧ r.2.mem ((c.tc : Thread Cert.Call.nD Cert.Call.τ).loc Cert.Call.main_arg9) = m ((c.tc : Thread Cert.Call.nD Cert.Call.τ).loc Cert.Call.main_arg9))
      ∧ r.2.sem = fun _ => 0)

def quiescent_CallIdeal [hCallIdeal : Cert.CallIdeal.Facts] : Prop :=
  ∀ (m : (ℓ : Loc Cert.CallIdeal.nD Cert.CallIdeal.τ Cert.CallIdeal.sig) → Buf (Elt Ideal) ℓ) (g : Dev Cert.CallIdeal.nD → PrngReg), Pre_CallIdeal m →
    θ_run (Cert.CallIdeal.defs (F := Ideal)) (onTc (τ := Cert.CallIdeal.τ) (Cert.CallIdeal.main (F := Ideal))) ⟨m, fun _ => 0, g⟩ (fun r => (∀ c : Dev Cert.CallIdeal.nD,
      r.2.mem ((c.tc : Thread Cert.CallIdeal.nD Cert.CallIdeal.τ).loc Cert.CallIdeal.main_arg0) = m ((c.tc : Thread Cert.CallIdeal.nD Cert.CallIdeal.τ).loc Cert.CallIdeal.main_arg0)
      ∧ r.2.mem ((c.tc : Thread Cert.CallIdeal.nD Cert.CallIdeal.τ).loc Cert.CallIdeal.main_arg1) = m ((c.tc : Thread Cert.CallIdeal.nD Cert.CallIdeal.τ).loc Cert.CallIdeal.main_arg1)
      ∧ r.2.mem ((c.tc : Thread Cert.CallIdeal.nD Cert.CallIdeal.τ).loc Cert.CallIdeal.main_arg2) = m ((c.tc : Thread Cert.CallIdeal.nD Cert.CallIdeal.τ).loc Cert.CallIdeal.main_arg2)
      ∧ r.2.mem ((c.tc : Thread Cert.CallIdeal.nD Cert.CallIdeal.τ).loc Cert.CallIdeal.main_arg3) = m ((c.tc : Thread Cert.CallIdeal.nD Cert.CallIdeal.τ).loc Cert.CallIdeal.main_arg3)
      ∧ r.2.mem ((c.tc : Thread Cert.CallIdeal.nD Cert.CallIdeal.τ).loc Cert.CallIdeal.main_arg4) = m ((c.tc : Thread Cert.CallIdeal.nD Cert.CallIdeal.τ).loc Cert.CallIdeal.main_arg4)
      ∧ r.2.mem ((c.tc : Thread Cert.CallIdeal.nD Cert.CallIdeal.τ).loc Cert.CallIdeal.main_arg5) = m ((c.tc : Thread Cert.CallIdeal.nD Cert.CallIdeal.τ).loc Cert.CallIdeal.main_arg5)
      ∧ r.2.mem ((c.tc : Thread Cert.CallIdeal.nD Cert.CallIdeal.τ).loc Cert.CallIdeal.main_arg6) = m ((c.tc : Thread Cert.CallIdeal.nD Cert.CallIdeal.τ).loc Cert.CallIdeal.main_arg6)
      ∧ r.2.mem ((c.tc : Thread Cert.CallIdeal.nD Cert.CallIdeal.τ).loc Cert.CallIdeal.main_arg7) = m ((c.tc : Thread Cert.CallIdeal.nD Cert.CallIdeal.τ).loc Cert.CallIdeal.main_arg7)
      ∧ r.2.mem ((c.tc : Thread Cert.CallIdeal.nD Cert.CallIdeal.τ).loc Cert.CallIdeal.main_arg8) = m ((c.tc : Thread Cert.CallIdeal.nD Cert.CallIdeal.τ).loc Cert.CallIdeal.main_arg8)
      ∧ r.2.mem ((c.tc : Thread Cert.CallIdeal.nD Cert.CallIdeal.τ).loc Cert.CallIdeal.main_arg9) = m ((c.tc : Thread Cert.CallIdeal.nD Cert.CallIdeal.τ).loc Cert.CallIdeal.main_arg9))
      ∧ r.2.sem = fun _ => 0)

def algebraic_KernelIdeal_ReferenceIdeal_pre_finite_empty [hKernelIdeal : Cert.KernelIdeal.Facts] [hReferenceIdeal : Cert.ReferenceIdeal.Facts] [hPre_finite_empty : Cert.Pre_finite_empty.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_empty m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v20)) (v5 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v20) = v4 c
          ∧ r.2.mem ((c.tc : Thread Cert.KernelIdeal.nD Cert.KernelIdeal.τ).loc Cert.KernelIdeal.main_v22) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v164) = v2 c
          ∧ r.2.mem ((c.tc : Thread Cert.ReferenceIdeal.nD Cert.ReferenceIdeal.τ).loc Cert.ReferenceIdeal.main_v167) = v3 c
          ∧ r.2.mem ((c.tc : Thread Cert.ReferenceIdeal.nD Cert.ReferenceIdeal.τ).loc Cert.ReferenceIdeal.main_v170) = v4 c
          ∧ r.2.mem ((c.tc : Thread Cert.ReferenceIdeal.nD Cert.ReferenceIdeal.τ).loc Cert.ReferenceIdeal.main_v173) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Call_CallIdeal : Prop :=
  True

def Claim : Prop :=
  ∃ (hKernelIdeal : Cert.KernelIdeal.Facts) (hReferenceIdeal : Cert.ReferenceIdeal.Facts) (hCall : Cert.Call.Facts) (hCallIdeal : Cert.CallIdeal.Facts) (hPre_finite_empty : Cert.Pre_finite_empty.Facts),
    quiescent_KernelIdeal (hKernelIdeal := hKernelIdeal)
    ∧ quiescent_KernelIdeal_pre_finite_empty (hKernelIdeal := hKernelIdeal) (hPre_finite_empty := hPre_finite_empty)
    ∧ quiescent_ReferenceIdeal (hReferenceIdeal := hReferenceIdeal)
    ∧ quiescent_ReferenceIdeal_pre_finite_empty (hReferenceIdeal := hReferenceIdeal) (hPre_finite_empty := hPre_finite_empty)
    ∧ quiescent_Call (hCall := hCall)
    ∧ quiescent_CallIdeal (hCallIdeal := hCallIdeal)
    ∧ algebraic_KernelIdeal_ReferenceIdeal_pre_finite_empty (hKernelIdeal := hKernelIdeal) (hReferenceIdeal := hReferenceIdeal) (hPre_finite_empty := hPre_finite_empty)
    ∧ preserves_Call_CallIdeal
-- ==== Pre_finite_empty.lean ====
abbrev S64 : Shape := ⟨1, ![64]⟩
abbrev S256x64 : Shape := ⟨2, ![256, 64]⟩
abbrev S256x2048 : Shape := ⟨2, ![256, 2048]⟩
abbrev S256 : Shape := ⟨1, ![256]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S64 .f32) (main_arg1 : FVec F S256x64 .f32) (main_arg2 : FVec F S256x64 .f32) (main_arg3 : IVec S256x2048 1) (main_arg4 : IVec S256x2048 1) (main_arg5 : IVec S256x2048 1) (main_arg6 : IVec S256 1) (main_arg7 : IVec S256 32) : IVec S_ 1 :=
  let main_v0 : FVec F S64 .f32 := Host.absf main_arg0
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  main_v3
-- ==== KernelIdeal.lean ====
abbrev S64 : Shape := ⟨1, ![64]⟩
abbrev S256x64 : Shape := ⟨2, ![256, 64]⟩
abbrev S256x2048 : Shape := ⟨2, ![256, 2048]⟩
abbrev S256 : Shape := ⟨1, ![256]⟩
abbrev S2048x16 : Shape := ⟨2, ![2048, 16]⟩
abbrev S2048x128 : Shape := ⟨2, ![2048, 128]⟩
abbrev S1x64 : Shape := ⟨2, ![1, 64]⟩
abbrev S4096x128 : Shape := ⟨2, ![4096, 128]⟩
abbrev S16x16x64 : Shape := ⟨3, ![16, 16, 64]⟩
abbrev S16x16x1 : Shape := ⟨3, ![16, 16, 1]⟩
abbrev S256x2048x64 : Shape := ⟨3, ![256, 2048, 64]⟩
abbrev S1x128 : Shape := ⟨2, ![1, 128]⟩
abbrev S256x128 : Shape := ⟨2, ![256, 128]⟩
abbrev S1x16x64 : Shape := ⟨3, ![1, 16, 64]⟩
abbrev S1x16x1 : Shape := ⟨3, ![1, 16, 1]⟩
abbrev S16x2048x64 : Shape := ⟨3, ![16, 2048, 64]⟩
abbrev S16x1 : Shape := ⟨2, ![16, 1]⟩
abbrev S16x128 : Shape := ⟨2, ![16, 128]⟩
abbrev S1x1x1 : Shape := ⟨3, ![1, 1, 1]⟩
abbrev S1x1 : Shape := ⟨2, ![1, 1]⟩
abbrev S16x256 : Shape := ⟨2, ![16, 256]⟩
abbrev S1x1x64 : Shape := ⟨3, ![1, 1, 64]⟩
abbrev S128x64 : Shape := ⟨2, ![128, 64]⟩
abbrev S256x16 : Shape := ⟨2, ![256, 16]⟩
abbrev S256x256 : Shape := ⟨2, ![256, 256]⟩
abbrev S1x256x64 : Shape := ⟨3, ![1, 256, 64]⟩
abbrev S1x256x128 : Shape := ⟨3, ![1, 256, 128]⟩
abbrev S1 : Shape := ⟨1, ![1]⟩
abbrev S_ : Shape := ⟨0, ![]⟩

abbrev nBuf : Space → Nat
  | .hbm => 34
  | .vmem => 20
  | .smem => 0
  | _ => 0

abbrev bufTy : (tb : Table) → Fin (tcTables nBuf tb) → BufTy
  | .hbm, ⟨0, _⟩ => ⟨S64, .f32⟩
  | .hbm, ⟨1, _⟩ => ⟨S256x64, .f32⟩
  | .hbm, ⟨2, _⟩ => ⟨S256x64, .f32⟩
  | .hbm, ⟨3, _⟩ => ⟨S256x2048, .i1⟩
  | .hbm, ⟨4, _⟩ => ⟨S256x2048, .i1⟩
  | .hbm, ⟨5, _⟩ => ⟨S256x2048, .i1⟩
  | .hbm, ⟨6, _⟩ => ⟨S256, .i1⟩
  | .hbm, ⟨7, _⟩ => ⟨S256, .i32⟩
  | .hbm, ⟨8, _⟩ => ⟨S2048x16, .bf16⟩
  | .hbm, ⟨9, _⟩ => ⟨S2048x128, .f32⟩
  | .hbm, ⟨10, _⟩ => ⟨S1x64, .f32⟩
  | .hbm, ⟨11, _⟩ => ⟨S4096x128, .i1⟩
  | .hbm, ⟨12, _⟩ => ⟨S4096x128, .i1⟩
  | .hbm, ⟨13, _⟩ => ⟨S4096x128, .i1⟩
  | .hbm, ⟨14, _⟩ => ⟨S16x16x64, .f32⟩
  | .hbm, ⟨15, _⟩ => ⟨S16x16x64, .f32⟩
  | .hbm, ⟨16, _⟩ => ⟨S16x16x1, .i32⟩
  | .hbm, ⟨17, _⟩ => ⟨S256, .f32⟩
  | .hbm, ⟨18, _⟩ => ⟨S16x16x1, .f32⟩
  | .hbm, ⟨19, _⟩ => ⟨S4096x128, .i32⟩
  | .hbm, ⟨20, _⟩ => ⟨S4096x128, .i32⟩
  | .hbm, ⟨21, _⟩ => ⟨S4096x128, .i32⟩
  | .hbm, ⟨22, _⟩ => ⟨S256x2048x64, .f32⟩
  | .hbm, ⟨23, _⟩ => ⟨S1x128, .f32⟩
  | .hbm, ⟨24, _⟩ => ⟨S1x1, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S_, .f32⟩
  | .local _ .vmem, ⟨0, _⟩ => ⟨S256x128, .i32⟩
  | .local _ .vmem, ⟨1, _⟩ => ⟨S256x128, .i32⟩
  | .local _ .vmem, ⟨2, _⟩ => ⟨S256x128, .i32⟩
  | .local _ .vmem, ⟨3, _⟩ => ⟨S256x128, .i32⟩
  | .local _ .vmem, ⟨4, _⟩ => ⟨S256x128, .i32⟩
  | .local _ .vmem, ⟨5, _⟩ => ⟨S256x128, .i32⟩
  | .local _ .vmem, ⟨6, _⟩ => ⟨S1x16x64, .f32⟩
  | .local _ .vmem, ⟨7, _⟩ => ⟨S1x16x64, .f32⟩
  | .local _ .vmem, ⟨8, _⟩ => ⟨S1x16x64, .f32⟩
  | .local _ .vmem, ⟨9, _⟩ => ⟨S1x16x64, .f32⟩
  | .local _ .vmem, ⟨10, _⟩ => ⟨S1x64, .f32⟩
  | .local _ .vmem, ⟨11, _⟩ => ⟨S1x16x1, .i32⟩
  | .local _ .vmem, ⟨12, _⟩ => ⟨S1x16x1, .i32⟩
  | .local _ .vmem, ⟨13, _⟩ => ⟨S1x16x1, .f32⟩
  | .local _ .vmem, ⟨14, _⟩ => ⟨S1x16x1, .f32⟩
  | .local _ .vmem, ⟨15, _⟩ => ⟨S2048x16, .bf16⟩
  | .local _ .vmem, ⟨16, _⟩ => ⟨S2048x128, .f32⟩
  | .local _ .vmem, ⟨17, _⟩ => ⟨S16x2048x64, .f32⟩
  | .local _ .vmem, ⟨18, _⟩ => ⟨S16x2048x64, .f32⟩
  | .local _ .vmem, ⟨19, _⟩ => ⟨S1x128, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x2048x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S64 : Shape := ⟨1, ![64]⟩
abbrev S256x64 : Shape := ⟨2, ![256, 64]⟩
abbrev S256x2048 : Shape := ⟨2, ![256, 2048]⟩
abbrev S256 : Shape := ⟨1, ![256]⟩
abbrev S1x1x64 : Shape := ⟨3, ![1, 1, 64]⟩
abbrev S256x2048x64 : Shape := ⟨3, ![256, 2048, 64]⟩
abbrev S_ : Shape := ⟨0, ![]⟩
abbrev S256x2048x1 : Shape := ⟨3, ![256, 2048, 1]⟩
abbrev S256x1x64 : Shape := ⟨3, ![256, 1, 64]⟩
abbrev S256x1 : Shape := ⟨2, ![256, 1]⟩
abbrev S256x2 : Shape := ⟨2, ![256, 2]⟩

abbrev nBuf : Space → Nat
  | .hbm => 253
  | .vmem => 0
  | .smem => 0
  | _ => 0

abbrev hbmTy0_0 (i : Nat) : BufTy := match i % 128 with
  | 0 => ⟨S64, .f32⟩
  | 1 => ⟨S256x64, .f32⟩
  | 2 => ⟨S256x64, .f32⟩
  | 3 => ⟨S256x2048, .i1⟩
  | 4 => ⟨S256x2048, .i1⟩
  | 5 => ⟨S256x2048, .i1⟩
  | 6 => ⟨S256, .i1⟩
  | 7 => ⟨S256, .i32⟩
  | 8 => ⟨S1x1x64, .f32⟩
  | 9 => ⟨S256x2048x64, .f32⟩
  | 10 => ⟨S_, .f32⟩
  | 11 => ⟨S256x2048, .f32⟩
  | 12 => ⟨S_, .f32⟩
  | 13 => ⟨S256x2048, .f32⟩
  | 14 => ⟨S_, .i1⟩
  | 15 => ⟨S256x2048, .i1⟩
  | 16 => ⟨S256x2048, .f32⟩
  | 17 => ⟨S256x2048, .f32⟩
  | 18 => ⟨S256x2048x1, .i1⟩
  | 19 => ⟨S1x1x64, .f32⟩
  | 20 => ⟨S256x2048x64, .i1⟩
  | 21 => ⟨S256x2048x64, .f32⟩
  | 22 => ⟨S256x2048x64, .f32⟩
  | 23 => ⟨S256x2048, .i1⟩
  | 24 => ⟨S256x2048, .i1⟩
  | 25 => ⟨S_, .f32⟩
  | 26 => ⟨S256x2048, .f32⟩
  | 27 => ⟨S256x2048, .f32⟩
  | 28 => ⟨S_, .f32⟩
  | 29 => ⟨S256x2048, .f32⟩
  | 30 => ⟨S256x2048, .f32⟩
  | 31 => ⟨S256x2048, .f32⟩
  | 32 => ⟨S256x2048x1, .f32⟩
  | 33 => ⟨S256x1x64, .f32⟩
  | 34 => ⟨S256x2048x64, .f32⟩
  | 35 => ⟨S_, .f32⟩
  | 36 => ⟨S256x2048x1, .f32⟩
  | 37 => ⟨S256x2048x1, .f32⟩
  | 38 => ⟨S256x2048x64, .f32⟩
  | 39 => ⟨S256x2048x64, .f32⟩
  | 40 => ⟨S_, .f32⟩
  | 41 => ⟨S256x2048x64, .f32⟩
  | 42 => ⟨S256x2048x64, .f32⟩
  | 43 => ⟨S_, .f32⟩
  | 44 => ⟨S256x2048x64, .f32⟩
  | 45 => ⟨S256x2048x64, .f32⟩
  | 46 => ⟨S256x2048x64, .f32⟩
  | 47 => ⟨S256x2048x64, .f32⟩
  | 48 => ⟨S256x2048x64, .f32⟩
  | 49 => ⟨S256x2048x64, .f32⟩
  | 50 => ⟨S256x2048, .i1⟩
  | 51 => ⟨S_, .f32⟩
  | 52 => ⟨S256x2048, .f32⟩
  | 53 => ⟨S256x2048, .f32⟩
  | 54 => ⟨S256x2048, .i1⟩
  | 55 => ⟨S256, .i32⟩
  | 56 => ⟨S_, .i32⟩
  | 57 => ⟨S_, .i32⟩
  | 58 => ⟨S_, .i32⟩
  | 59 => ⟨S256, .i32⟩
  | 60 => ⟨S256, .i32⟩
  | 61 => ⟨S_, .i32⟩
  | 62 => ⟨S256, .i32⟩
  | 63 => ⟨S256, .i32⟩
  | 64 => ⟨S_, .i32⟩
  | 65 => ⟨S256, .i32⟩
  | 66 => ⟨S256, .i1⟩
  | 67 => ⟨S_, .i32⟩
  | 68 => ⟨S256, .i32⟩
  | 69 => ⟨S256, .i32⟩
  | 70 => ⟨S256, .i32⟩
  | 71 => ⟨S_, .i32⟩
  | 72 => ⟨S256, .i32⟩
  | 73 => ⟨S256, .i1⟩
  | 74 => ⟨S_, .i32⟩
  | 75 => ⟨S256, .i32⟩
  | 76 => ⟨S256, .i32⟩
  | 77 => ⟨S256, .i32⟩
  | 78 => ⟨S256x1, .i32⟩
  | 79 => ⟨S256x1, .i32⟩
  | 80 => ⟨S256x2, .i32⟩
  | 81 => ⟨S256x64, .f32⟩
  | 82 => ⟨S256x1, .i1⟩
  | 83 => ⟨S256x64, .i1⟩
  | 84 => ⟨S256x64, .f32⟩
  | 85 => ⟨S_, .i32⟩
  | 86 => ⟨S256, .i32⟩
  | 87 => ⟨S256, .i1⟩
  | 88 => ⟨S_, .i32⟩
  | 89 => ⟨S256, .i32⟩
  | 90 => ⟨S256, .i32⟩
  | 91 => ⟨S256, .i32⟩
  | 92 => ⟨S_, .i32⟩
  | 93 => ⟨S256, .i32⟩
  | 94 => ⟨S256, .i1⟩
  | 95 => ⟨S_, .i32⟩
  | 96 => ⟨S256, .i32⟩
  | 97 => ⟨S256, .i32⟩
  | 98 => ⟨S256, .i32⟩
  | 99 => ⟨S256x1, .i32⟩
  | 100 => ⟨S256x1, .i32⟩
  | 101 => ⟨S256x2, .i32⟩
  | 102 => ⟨S256x2048x64, .f32⟩
  | 103 => ⟨S_, .i32⟩
  | 104 => ⟨S256, .i32⟩
  | 105 => ⟨S256, .i1⟩
  | 106 => ⟨S_, .i32⟩
  | 107 => ⟨S256, .i32⟩
  | 108 => ⟨S256, .i32⟩
  | 109 => ⟨S256, .i32⟩
  | 110 => ⟨S_, .i32⟩
  | 111 => ⟨S256, .i32⟩
  | 112 => ⟨S256, .i1⟩
  | 113 => ⟨S_, .i32⟩
  | 114 => ⟨S256, .i32⟩
  | 115 => ⟨S256, .i32⟩
  | 116 => ⟨S256, .i32⟩
  | 117 => ⟨S256x1, .i32⟩
  | 118 => ⟨S256x1, .i32⟩
  | 119 => ⟨S256x2, .i32⟩
  | 120 => ⟨S256, .i1⟩
  | 121 => ⟨S_, .i1⟩
  | 122 => ⟨S256, .i1⟩
  | 123 => ⟨S256, .i1⟩
  | 124 => ⟨S_, .i32⟩
  | 125 => ⟨S256, .i32⟩
  | 126 => ⟨S256, .i1⟩
  | 127 => ⟨S_, .i32⟩
  | _ => ⟨S64, .f32⟩

abbrev hbmTy0_1 (i : Nat) : BufTy := match i % 128 with
  | 0 => ⟨S256, .i32⟩
  | 1 => ⟨S256, .i32⟩
  | 2 => ⟨S256, .i32⟩
  | 3 => ⟨S_, .i32⟩
  | 4 => ⟨S256, .i32⟩
  | 5 => ⟨S256, .i1⟩
  | 6 => ⟨S_, .i32⟩
  | 7 => ⟨S256, .i32⟩
  | 8 => ⟨S256, .i32⟩
  | 9 => ⟨S256, .i32⟩
  | 10 => ⟨S256x1, .i32⟩
  | 11 => ⟨S256x1, .i32⟩
  | 12 => ⟨S256x2, .i32⟩
  | 13 => ⟨S256x2048, .i1⟩
  | 14 => ⟨S_, .i32⟩
  | 15 => ⟨S256, .i32⟩
  | 16 => ⟨S256, .i1⟩
  | 17 => ⟨S_, .i32⟩
  | 18 => ⟨S256, .i32⟩
  | 19 => ⟨S256, .i32⟩
  | 20 => ⟨S256, .i32⟩
  | 21 => ⟨S_, .i32⟩
  | 22 => ⟨S256, .i32⟩
  | 23 => ⟨S256, .i1⟩
  | 24 => ⟨S_, .i32⟩
  | 25 => ⟨S256, .i32⟩
  | 26 => ⟨S256, .i32⟩
  | 27 => ⟨S256, .i32⟩
  | 28 => ⟨S256x1, .i32⟩
  | 29 => ⟨S256x1, .i32⟩
  | 30 => ⟨S256x2, .i32⟩
  | 31 => ⟨S256, .f32⟩
  | 32 => ⟨S_, .f32⟩
  | 33 => ⟨S_, .f32⟩
  | 34 => ⟨S256, .f32⟩
  | 35 => ⟨S256, .f32⟩
  | 36 => ⟨S_, .i32⟩
  | 37 => ⟨S256, .i32⟩
  | 38 => ⟨S256, .i1⟩
  | 39 => ⟨S_, .i32⟩
  | 40 => ⟨S256, .i32⟩
  | 41 => ⟨S256, .i32⟩
  | 42 => ⟨S256, .i32⟩
  | 43 => ⟨S_, .i32⟩
  | 44 => ⟨S256, .i32⟩
  | 45 => ⟨S256, .i1⟩
  | 46 => ⟨S_, .i32⟩
  | 47 => ⟨S256, .i32⟩
  | 48 => ⟨S256, .i32⟩
  | 49 => ⟨S256, .i32⟩
  | 50 => ⟨S256x1, .i32⟩
  | 51 => ⟨S256x1, .i32⟩
  | 52 => ⟨S256x2, .i32⟩
  | 53 => ⟨S256x2048, .f32⟩
  | 54 => ⟨S_, .i32⟩
  | 55 => ⟨S256, .i32⟩
  | 56 => ⟨S256, .i1⟩
  | 57 => ⟨S_, .i32⟩
  | 58 => ⟨S256, .i32⟩
  | 59 => ⟨S256, .i32⟩
  | 60 => ⟨S256, .i32⟩
  | 61 => ⟨S_, .i32⟩
  | 62 => ⟨S256, .i32⟩
  | 63 => ⟨S256, .i1⟩
  | 64 => ⟨S_, .i32⟩
  | 65 => ⟨S256, .i32⟩
  | 66 => ⟨S256, .i32⟩
  | 67 => ⟨S256, .i32⟩
  | 68 => ⟨S256x1, .i32⟩
  | 69 => ⟨S256x1, .i32⟩
  | 70 => ⟨S256x2, .i32⟩
  | 71 => ⟨S256, .f32⟩
  | 72 => ⟨S_, .f32⟩
  | 73 => ⟨S_, .f32⟩
  | 74 => ⟨S256, .f32⟩
  | 75 => ⟨S256, .f32⟩
  | 76 => ⟨S_, .i32⟩
  | 77 => ⟨S256, .i32⟩
  | 78 => ⟨S256, .i1⟩
  | 79 => ⟨S_, .i32⟩
  | 80 => ⟨S256, .i32⟩
  | 81 => ⟨S256, .i32⟩
  | 82 => ⟨S256, .i32⟩
  | 83 => ⟨S_, .i32⟩
  | 84 => ⟨S256, .i32⟩
  | 85 => ⟨S256, .i1⟩
  | 86 => ⟨S_, .i32⟩
  | 87 => ⟨S256, .i32⟩
  | 88 => ⟨S256, .i32⟩
  | 89 => ⟨S256, .i32⟩
  | 90 => ⟨S256x1, .i32⟩
  | 91 => ⟨S256x1, .i32⟩
  | 92 => ⟨S256x2, .i32⟩
  | 93 => ⟨S256x2048, .f32⟩
  | 94 => ⟨S256x2048, .f32⟩
  | 95 => ⟨S_, .f32⟩
  | 96 => ⟨S_, .f32⟩
  | 97 => ⟨S_, .f32⟩
  | 98 => ⟨S_, .f32⟩
  | 99 => ⟨S256x2048, .f32⟩
  | 100 => ⟨S_, .f32⟩
  | 101 => ⟨S_, .f32⟩
  | 102 => ⟨S_, .f32⟩
  | 103 => ⟨S_, .f32⟩
  | 104 => ⟨S_, .f32⟩
  | 105 => ⟨S256x2048, .f32⟩
  | 106 => ⟨S256x2048, .f32⟩
  | 107 => ⟨S_, .f32⟩
  | 108 => ⟨S_, .f32⟩
  | 109 => ⟨S_, .f32⟩
  | 110 => ⟨S256, .f32⟩
  | 111 => ⟨S_, .f32⟩
  | 112 => ⟨S_, .f32⟩
  | 113 => ⟨S_, .f32⟩
  | 114 => ⟨S_, .f32⟩
  | 115 => ⟨S256x2048, .f32⟩
  | 116 => ⟨S_, .f32⟩
  | 117 => ⟨S_, .f32⟩
  | 118 => ⟨S_, .f32⟩
  | 119 => ⟨S_, .f32⟩
  | 120 => ⟨S256x2048, .f32⟩
  | 121 => ⟨S_, .f32⟩
  | 122 => ⟨S_, .f32⟩
  | 123 => ⟨S_, .f32⟩
  | 124 => ⟨S_, .f32⟩
  | _ => ⟨S64, .f32⟩

abbrev hbmTy (i : Nat) : BufTy := match i / 128 with
  | 0 => hbmTy0_0 i
  | 1 => hbmTy0_1 i
  | _ => ⟨S64, .f32⟩

abbrev bufTy : (tb : Table) → Fin (tcTables nBuf tb) → BufTy
  | .hbm, ⟨i, _⟩ => hbmTy i
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_c_8 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_11 : Ref sig .tc := ⟨.hbm, 71, rfl⟩
abbrev main_v43 : Ref sig .tc := ⟨.hbm, 72, rfl⟩
abbrev main_v44 : Ref sig .tc := ⟨.hbm, 73, rfl⟩
abbrev main_c_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call5_v0 : Ref sig .tc := ⟨.hbm, 83, rfl⟩
abbrev main_v53 : Ref sig .tc := ⟨.hbm, 84, rfl⟩
abbrev main_c_13 : Ref sig .tc := ⟨.hbm, 85, rfl⟩
abbrev main_v54 : Ref sig .tc := ⟨.hbm, 86, rfl⟩
abbrev main_v55 : Ref sig .tc := ⟨.hbm, 87, rfl⟩
abbrev main_c_14 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_15 : Ref sig .tc := ⟨.hbm, 92, rfl⟩
abbrev main_v59 : Ref sig .tc := ⟨.hbm, 93, rfl⟩
abbrev main_v60 : Ref sig .tc := ⟨.hbm, 94, rfl⟩
abbrev main_c_16 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_17 : Ref sig .tc := ⟨.hbm, 103, rfl⟩
abbrev main_v68 : Ref sig .tc := ⟨.hbm, 104, rfl⟩
abbrev main_v69 : Ref sig .tc := ⟨.hbm, 105, rfl⟩
abbrev main_c_18 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_19 : Ref sig .tc := ⟨.hbm, 110, rfl⟩
abbrev main_v73 : Ref sig .tc := ⟨.hbm, 111, rfl⟩
abbrev main_v74 : Ref sig .tc := ⟨.hbm, 112, rfl⟩
abbrev main_c_20 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_21 : Ref sig .tc := ⟨.hbm, 121, rfl⟩
abbrev main_call6_v0 : Ref sig .tc := ⟨.hbm, 122, rfl⟩
abbrev main_v82 : Ref sig .tc := ⟨.hbm, 123, rfl⟩
abbrev main_c_22 : Ref sig .tc := ⟨.hbm, 124, rfl⟩
abbrev main_v83 : Ref sig .tc := ⟨.hbm, 125, rfl⟩
abbrev main_v84 : Ref sig .tc := ⟨.hbm, 126, rfl⟩
abbrev main_c_23 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_24 : Ref sig .tc := ⟨.hbm, 131, rfl⟩
abbrev main_v88 : Ref sig .tc := ⟨.hbm, 132, rfl⟩
abbrev main_v89 : Ref sig .tc := ⟨.hbm, 133, rfl⟩
abbrev main_c_25 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_26 : Ref sig .tc := ⟨.hbm, 142, rfl⟩
abbrev main_v97 : Ref sig .tc := ⟨.hbm, 143, rfl⟩
abbrev main_v98 : Ref sig .tc := ⟨.hbm, 144, rfl⟩
abbrev main_c_27 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_28 : Ref sig .tc := ⟨.hbm, 149, rfl⟩
abbrev main_v102 : Ref sig .tc := ⟨.hbm, 150, rfl⟩
abbrev main_v103 : Ref sig .tc := ⟨.hbm, 151, rfl⟩
abbrev main_c_29 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_30 : Ref sig .tc := ⟨.hbm, 160, rfl⟩
abbrev main_call7_v0 : Ref sig .tc := ⟨.hbm, 161, rfl⟩
abbrev main_call7_v1 : Ref sig .tc := ⟨.hbm, 162, rfl⟩
abbrev main_v111 : Ref sig .tc := ⟨.hbm, 163, rfl⟩
abbrev main_c_31 : Ref sig .tc := ⟨.hbm, 164, rfl⟩
abbrev main_v112 : Ref sig .tc := ⟨.hbm, 165, rfl⟩
abbrev main_v113 : Ref sig .tc := ⟨.hbm, 166, rfl⟩
abbrev main_c_32 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_c_33 : Ref sig .tc := ⟨.hbm, 171, rfl⟩
abbrev main_v117 : Ref sig .tc := ⟨.hbm, 172, rfl⟩
abbrev main_v118 : Ref sig .tc := ⟨.hbm, 173, rfl⟩
abbrev main_c_34 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_c_35 : Ref sig .tc := ⟨.hbm, 182, rfl⟩
abbrev main_v126 : Ref sig .tc := ⟨.hbm, 183, rfl⟩
abbrev main_v127 : Ref sig .tc := ⟨.hbm, 184, rfl⟩
abbrev main_c_36 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_c_37 : Ref sig .tc := ⟨.hbm, 189, rfl⟩
abbrev main_v131 : Ref sig .tc := ⟨.hbm, 190, rfl⟩
abbrev main_v132 : Ref sig .tc := ⟨.hbm, 191, rfl⟩
abbrev main_c_38 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_cst_39 : Ref sig .tc := ⟨.hbm, 200, rfl⟩
abbrev main_call8_v0 : Ref sig .tc := ⟨.hbm, 201, rfl⟩
abbrev main_call8_v1 : Ref sig .tc := ⟨.hbm, 202, rfl⟩
abbrev main_v140 : Ref sig .tc := ⟨.hbm, 203, rfl⟩
abbrev main_c_40 : Ref sig .tc := ⟨.hbm, 204, rfl⟩
abbrev main_v141 : Ref sig .tc := ⟨.hbm, 205, rfl⟩
abbrev main_v142 : Ref sig .tc := ⟨.hbm, 206, rfl⟩
abbrev main_c_41 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_c_42 : Ref sig .tc := ⟨.hbm, 211, rfl⟩
abbrev main_v146 : Ref sig .tc := ⟨.hbm, 212, rfl⟩
abbrev main_v147 : Ref sig .tc := ⟨.hbm, 213, rfl⟩
abbrev main_c_43 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_cst_44 : Ref sig .tc := ⟨.hbm, 223, rfl⟩
abbrev main_v156 : Ref sig .tc := ⟨.hbm, 224, rfl⟩
abbrev main_cst_45 : Ref sig .tc := ⟨.hbm, 225, rfl⟩
abbrev main_v157 : Ref sig .tc := ⟨.hbm, 226, rfl⟩
abbrev main_v158 : Ref sig .tc := ⟨.hbm, 227, rfl⟩
abbrev main_cst_46 : Ref sig .tc := ⟨.hbm, 228, rfl⟩
abbrev main_v159 : Ref sig .tc := ⟨.hbm, 229, rfl⟩
abbrev main_cst_47 : Ref sig .tc := ⟨.hbm, 230, rfl⟩
abbrev main_v160 : Ref sig .tc := ⟨.hbm, 231, rfl⟩
abbrev main_cst_48 : Ref sig .tc := ⟨.hbm, 232, rfl⟩
abbrev main_v161 : Ref sig .tc := ⟨.hbm, 233, rfl⟩
abbrev main_v162 : Ref sig .tc := ⟨.hbm, 234, rfl⟩
abbrev main_cst_49 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_cst_50 : Ref sig .tc := ⟨.hbm, 239, rfl⟩
abbrev main_v166 : Ref sig .tc := ⟨.hbm, 240, rfl⟩
abbrev main_cst_51 : Ref sig .tc := ⟨.hbm, 241, rfl⟩
abbrev main_v167 : Ref sig .tc := ⟨.hbm, 242, rfl⟩
abbrev main_v168 : Ref sig .tc := ⟨.hbm, 243, rfl⟩
abbrev main_cst_52 : Ref sig .tc := ⟨.hbm, 244, rfl⟩
abbrev main_v169 : Ref sig .tc := ⟨.hbm, 245, rfl⟩
abbrev main_cst_53 : Ref sig .tc := ⟨.hbm, 246, rfl⟩
abbrev main_v170 : Ref sig .tc := ⟨.hbm, 247, rfl⟩
abbrev main_v171 : Ref sig .tc := ⟨.hbm, 248, rfl⟩
abbrev main_cst_54 : Ref sig .tc := ⟨.hbm, 249, rfl⟩
abbrev main_v172 : Ref sig .tc := ⟨.hbm, 250, rfl⟩
abbrev main_cst_55 : Ref sig .tc := ⟨.hbm, 251, rfl⟩
abbrev main_v173 : Ref sig .tc := ⟨.hbm, 252, rfl⟩

abbrev nD : Nat := 1
abbrev τ : Topo := Topo.v7x

variable {F : FTy → Type} [FloatOps F]
-- ==== Call.lean ====
abbrev S4096x128 : Shape := ⟨2, ![4096, 128]⟩
abbrev S16x16x64 : Shape := ⟨3, ![16, 16, 64]⟩
abbrev S1x64 : Shape := ⟨2, ![1, 64]⟩
abbrev S16x16x1 : Shape := ⟨3, ![16, 16, 1]⟩
abbrev S2048x16 : Shape := ⟨2, ![2048, 16]⟩
abbrev S2048x128 : Shape := ⟨2, ![2048, 128]⟩
abbrev S256x2048x64 : Shape := ⟨3, ![256, 2048, 64]⟩
abbrev S1x128 : Shape := ⟨2, ![1, 128]⟩
abbrev S256x128 : Shape := ⟨2, ![256, 128]⟩
abbrev S1x16x64 : Shape := ⟨3, ![1, 16, 64]⟩
abbrev S1x16x1 : Shape := ⟨3, ![1, 16, 1]⟩
abbrev S16x2048x64 : Shape := ⟨3, ![16, 2048, 64]⟩
abbrev S16x1 : Shape := ⟨2, ![16, 1]⟩
abbrev S16x128 : Shape := ⟨2, ![16, 128]⟩
abbrev S1x1x1 : Shape := ⟨3, ![1, 1, 1]⟩
abbrev S1x1 : Shape := ⟨2, ![1, 1]⟩
abbrev S16x256 : Shape := ⟨2, ![16, 256]⟩
abbrev S1x1x64 : Shape := ⟨3, ![1, 1, 64]⟩
abbrev S128x64 : Shape := ⟨2, ![128, 64]⟩
abbrev S256x16 : Shape := ⟨2, ![256, 16]⟩
abbrev S256x256 : Shape := ⟨2, ![256, 256]⟩
abbrev S256x64 : Shape := ⟨2, ![256, 64]⟩
abbrev S1x256x64 : Shape := ⟨3, ![1, 256, 64]⟩
abbrev S1x256x128 : Shape := ⟨3, ![1, 256, 128]⟩
abbrev S1 : Shape := ⟨1, ![1]⟩

abbrev nBuf : Space → Nat
  | .hbm => 15
  | .vmem => 20
  | .smem => 0
  | _ => 0

abbrev bufTy : (tb : Table) → Fin (tcTables nBuf tb) → BufTy
  | .hbm, ⟨0, _⟩ => ⟨S4096x128, .i1⟩
  | .hbm, ⟨1, _⟩ => ⟨S4096x128, .i1⟩
  | .hbm, ⟨2, _⟩ => ⟨S4096x128, .i1⟩
  | .hbm, ⟨3, _⟩ => ⟨S16x16x64, .f32⟩
  | .hbm, ⟨4, _⟩ => ⟨S16x16x64, .f32⟩
  | .hbm, ⟨5, _⟩ => ⟨S1x64, .f32⟩
  | .hbm, ⟨6, _⟩ => ⟨S16x16x1, .i32⟩
  | .hbm, ⟨7, _⟩ => ⟨S16x16x1, .f32⟩
  | .hbm, ⟨8, _⟩ => ⟨S2048x16, .bf16⟩
  | .hbm, ⟨9, _⟩ => ⟨S2048x128, .f32⟩
  | .hbm, ⟨10, _⟩ => ⟨S4096x128, .i32⟩
  | .hbm, ⟨11, _⟩ => ⟨S4096x128, .i32⟩
  | .hbm, ⟨12, _⟩ => ⟨S4096x128, .i32⟩
  | .hbm, ⟨13, _⟩ => ⟨S256x2048x64, .f32⟩
  | .hbm, ⟨14, _⟩ => ⟨S1x128, .f32⟩
  | .local _ .vmem, ⟨0, _⟩ => ⟨S256x128, .i32⟩
  | .local _ .vmem, ⟨1, _⟩ => ⟨S256x128, .i32⟩
  | .local _ .vmem, ⟨2, _⟩ => ⟨S256x128, .i32⟩
  | .local _ .vmem, ⟨3, _⟩ => ⟨S256x128, .i32⟩
  | .local _ .vmem, ⟨4, _⟩ => ⟨S256x128, .i32⟩
  | .local _ .vmem, ⟨5, _⟩ => ⟨S256x128, .i32⟩
  | .local _ .vmem, ⟨6, _⟩ => ⟨S1x16x64, .f32⟩
  | .local _ .vmem, ⟨7, _⟩ => ⟨S1x16x64, .f32⟩
  | .local _ .vmem, ⟨8, _⟩ => ⟨S1x16x64, .f32⟩
  | .local _ .vmem, ⟨9, _⟩ => ⟨S1x16x64, .f32⟩
  | .local _ .vmem, ⟨10, _⟩ => ⟨S1x64, .f32⟩
  | .local _ .vmem, ⟨11, _⟩ => ⟨S1x16x1, .i32⟩
  | .local _ .vmem, ⟨12, _⟩ => ⟨S1x16x1, .i32⟩
  | .local _ .vmem, ⟨13, _⟩ => ⟨S1x16x1, .f32⟩
  | .local _ .vmem, ⟨14, _⟩ => ⟨S1x16x1, .f32⟩
  | .local _ .vmem, ⟨15, _⟩ => ⟨S2048x16, .bf16⟩
  | .local _ .vmem, ⟨16, _⟩ => ⟨S2048x128, .f32⟩
  | .local _ .vmem, ⟨17, _⟩ => ⟨S16x2048x64, .f32⟩
  | .local _ .vmem, ⟨18, _⟩ => ⟨S16x2048x64, .f32⟩
  | .local _ .vmem, ⟨19, _⟩ => ⟨S1x128, .f32⟩
  | _, _ => ⟨S4096x128, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x2048x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Proof.Spec.lean ====
/- The mathematics of one step of the slot memory, in plain terms: the slot a batch row overwrites, a mask bit as a number, and what one step makes of
   every slot. Both programs are compared with these definitions. -/
module

public import Idealize.ShloMosaic.Lib.Pointwise

@[expose] public section

noncomputable section

namespace Cert.Slots

open Idealize.ShloMosaic

/-- The slot a word names: the word, read signed, clipped into `0 … 2047`. -/
def clip (w : BitVec 32) : BitVec 32 := IntOp.minsi 2047#32 (IntOp.maxsi 0#32 w)

/-- A clipped word, read signed, is a slot. -/
theorem clip_toInt (w : BitVec 32) : 0 ≤ (clip w).toInt ∧ (clip w).toInt < 2048 := by
  have h : BitVec.sle 0#32 (clip w) ∧ BitVec.slt (clip w) 2048#32 := by
    unfold clip IntOp.minsi IntOp.maxsi
    split <;> split <;> simp_all [BitVec.sle, BitVec.slt] <;> omega
  simp only [BitVec.sle, BitVec.slt, decide_eq_true_eq] at h
  exact h

/-- A clipped word, read unsigned, is a slot. -/
theorem clip_lt (w : BitVec 32) : (clip w).toNat < 2048 := by
  have h := clip_toInt w
  rw [BitVec.toInt_eq_toNat_cond] at h
  split at h <;> omega

/-- A clipped word reads the same signed and unsigned. -/
theorem clip_toInt_eq (w : BitVec 32) : (clip w).toInt = ((clip w).toNat : Int) := by
  have h := clip_lt w
  rw [BitVec.toInt_eq_toNat_cond, if_pos (by omega)]

/-- A mask bit as a number: `1` where it is set, `0` where it is not. -/
def num (b : BitVec 1) : EReal := ((b.toNat : ℝ) : EReal)

/-- What one step leaves in a slot: the row written, if the slot is overwritten; else the mean of the empty row and the update row, if it is updated; else
    the empty row. -/
def slotRow (overwritten : Prop) [Decidable overwritten] (updated : BitVec 1) (e uv wv : EReal) : EReal :=
  if overwritten then wv else if updated = 1#1 then (↑(1 / 2 : ℝ)) * e + (↑(1 / 2 : ℝ)) * uv else e

/-- Whether a slot is alive after the step, as a bit: updated, retained, or overwritten. -/
def alive (overwritten : Prop) [Decidable overwritten] (updated retained : BitVec 1) : BitVec 1 :=
  if overwritten then 1#1 else updated ||| retained

/-- A bit is clear or set. -/
theorem bit_cases (b : BitVec 1) : b = 0#1 ∨ b = 1#1 := by revert b; decide

/-- A clear bit counts nothing. -/
@[simp] theorem num_0 : num 0#1 = 0 := by simp [num]

/-- A set bit counts one. -/
@[simp] theorem num_1 : num 1#1 = 1 := by simp [num]

/-- A sum of whole numbers is the whole number of their sum. -/
theorem sum_coe {ι : Type*} (s : Finset ι) (f : ι → ℕ) : ∑ i ∈ s, (((f i : ℕ) : ℝ) : EReal) = (((∑ i ∈ s, f i : ℕ) : ℝ) : EReal) := by
  classical
  induction s using Finset.induction_on with
  | empty => simp
  | insert a s ha ih => rw [Finset.sum_insert ha, Finset.sum_insert ha, ih, Nat.cast_add, EReal.coe_add]

/-- The number of set bits of a table. -/
def count {I J : ℕ} (f : Fin I → Fin J → BitVec 1) : ℕ := ∑ i, ∑ j, (f i j).toNat

/-- The sum of a table of bits is their number. -/
theorem sum_num {I J : ℕ} (f : Fin I → Fin J → BitVec 1) : ∑ i, ∑ j, num (f i j) = ((count f : ℝ) : EReal) := by
  unfold num count
  simp only [sum_coe]

/-- The sum of a row of bits is their number. -/
theorem sum_num1 {I : ℕ} (f : Fin I → BitVec 1) : ∑ i, num (f i) = (((∑ i, (f i).toNat : ℕ) : ℝ) : EReal) := by
  unfold num
  simp only [sum_coe]

/-- The share a number of set bits makes of `n`. -/
def share (k n : ℕ) : EReal := (((k : ℝ) * (1 / (n : ℝ)) : ℝ) : EReal)

/-- A number divided by `n` is its share. -/
theorem div_share (k n : ℕ) (h : n ≠ 0) : Ideal.div ((k : ℝ) : EReal) (((n : ℝ)) : EReal) = share k n := by
  rw [Ideal.div_coe (by exact_mod_cast h), share, EReal.coe_mul]

/-- The pattern of one half. -/
theorem ofBits_half : Ideal.ofBits .f32 0x3F000000#32 = ((1 / 2 : ℝ) : EReal) := by
  simp [Ideal.ofBits, Ideal.ieee, -EReal.coe_mul]; norm_num

/-- The pattern of the number of slots of all rows. -/
theorem ofBits_slots : Ideal.ofBits .f32 0x49000000#32 = (((524288 : ℕ) : ℝ) : EReal) := by
  simp [Ideal.ofBits, Ideal.ieee, -EReal.coe_mul]; norm_num

/-- The pattern of the number of rows. -/
theorem ofBits_rows : Ideal.ofBits .f32 0x43800000#32 = (((256 : ℕ) : ℝ) : EReal) := by
  simp [Ideal.ofBits, Ideal.ieee, -EReal.coe_mul]; norm_num

/-- The pattern of one in the number of slots of all rows. -/
theorem ofBits_per_slot : Ideal.ofBits .f32 0x36000000#32 = ((1 / ((524288 : ℕ) : ℝ) : ℝ) : EReal) := by
  simp [Ideal.ofBits, Ideal.ieee, -EReal.coe_mul]; norm_num

/-- The pattern of one in the number of rows. -/
theorem ofBits_per_row : Ideal.ofBits .f32 0x3B800000#32 = ((1 / ((256 : ℕ) : ℝ) : ℝ) : EReal) := by
  simp [Ideal.ofBits, Ideal.ieee, -EReal.coe_mul]; norm_num

/-- The small number that keeps the mean age's divisor off zero is a positive real. -/
theorem ofBits_eps : ∃ r : ℝ, 0 < r ∧ Ideal.ofBits .f32 0x358637BD#32 = (r : EReal) := by
  refine ⟨(8796093 : ℝ) * (2 : ℝ) ^ (-43 : ℤ), by positivity, ?_⟩
  simp [Ideal.ofBits, Ideal.ieee, -EReal.coe_mul]

end Cert.Slots

end
-- ==== Proof.Table.lean ====
/- The two constant tables the kernel reads, entry by entry: the block table has a one where a slot lies in a block of 128 slots, the lane table where a slot
   has a lane of its block. -/
module

public import Idealize.ShloMosaic.Lib.Tactic
public import proofs.«01_k».proof.KernelIdeal
public import proofs.«01_k».proof.Proof.Spec

@[expose] public section

set_option maxRecDepth 16384

noncomputable section

namespace Cert.KernelIdeal.Slots

open Cert.KernelIdeal Idealize.ShloMosaic

/-- The chain of tests `x = k`, `x = k + 1`, …, `n` of them, that chooses `f` of the number it finds. -/
def chain (x : ℕ) {w : ℕ} (f : ℕ → BitVec w) (k : ℕ) (n : ℕ) : BitVec w :=
  Nat.rec (motive := fun _ => ℕ → BitVec w) (fun _ => 0#w)
    (fun _ r k => dite (x = k) (@Eq.ndrec_symm ℕ k (fun _ => BitVec w) (f k) x) (fun _ => r (k + 1))) n k

/-- The chain finds its number. -/
theorem chain_eq (x : ℕ) {w : ℕ} (f : ℕ → BitVec w) (n : ℕ) : ∀ k, k ≤ x → x < k + n → chain x f k n = f x := by
  induction n with
  | zero => intro k _ _; omega
  | succ n ih =>
    intro k hk hx
    by_cases h : x = k
    · subst h
      exact dif_pos rfl
    · refine (dif_neg h).trans ?_
      exact ih (k + 1) (by omega) (by omega)

/-- The lane table by the digits of an entry's position: row `128 a + b` of the 16·128 groups of 128 entries has its one at `b`. -/
theorem lane_chain (i : ℕ) : lit1t i = chain (i / 16384) (fun _ => chain (i / 128 % 128) (fun b => chain (i % 128) (fun c => bif Nat.beq b c then 0x3F800000#32 else 0x00000000#32) 0 128) 0 128) 0 16 := by sl_kernel_rfl

/-- The block table likewise: the 128 entries of group `128 a + b` are eight slots' rows of sixteen, with their ones at `8 a + b / 16`. -/
theorem block_chain (i : ℕ) : lit0t i = chain (i / 16384) (fun a => chain (i / 128 % 128) (fun b => chain (i % 128) (fun c => bif Nat.beq (8 * a + b / 16) (c % 16) then 0x3F80#16 else 0x0000#16) 0 128) 0 128) 0 2 := by sl_kernel_rfl

end Cert.KernelIdeal.Slots

end
-- ==== Proof.Entry.lean ====
/- The two constant tables entry by entry, as numbers. -/
module

public import proofs.«01_k».proof.Proof.Table
public import Idealize.ShloMosaic.Lib.Tactic
public import Idealize.ShloMosaic.Lib.IdealHost
public import Idealize.ShloMosaic.Lib.Pointwise

@[expose] public section

set_option maxRecDepth 16384

noncomputable section

namespace Cert.KernelIdeal.Slots

open Cert.KernelIdeal Idealize.ShloMosaic

/-- Equal numbers compare equal. -/
theorem beq_of_eq {a b : ℕ} (h : a = b) : Nat.beq a b = true := by subst h; exact Nat.beq_refl a

/-- Numbers that differ compare unequal. -/
theorem beq_of_ne {a b : ℕ} (h : a ≠ b) : Nat.beq a b = false := Bool.eq_false_iff.mpr fun e => h (Nat.eq_of_beq_eq_true e)

/-- The lane table, by the position alone. -/
theorem lane_val (i : Fin 262144) : lit1 i = lit1t i.val := by sl_kernel_rfl

/-- The block table, by the position alone. -/
theorem block_val (i : Fin 32768) : lit0 i = lit0t i.val := by sl_kernel_rfl

/-- The lane table at a slot and a lane: one where the lane is the slot's. -/
theorem lane_word (i : Fin 262144) (n : Fin 2048) (k : Fin 128) (hv : i.val = 128 * n.val + k.val) :
    FloatOps.ofBits (F := Ideal) .f32 (lit1 i) = (if n.val % 128 = k.val then 1 else 0 : EReal) := by
  rw [lane_val, hv, lane_chain, chain_eq _ _ _ 0 (by omega) (by omega), chain_eq _ _ _ 0 (by omega) (by omega), chain_eq _ _ _ 0 (by omega) (by omega)]
  have hd : (128 * n.val + k.val) / 128 = n.val := by omega
  have hm : (128 * n.val + k.val) % 128 = k.val := by omega
  rw [hd, hm]
  by_cases h : n.val % 128 = k.val
  · rw [if_pos h, beq_of_eq h]
    exact Idealize.ShloMosaic.Ideal.ofBits_one_f32
  · rw [if_neg h, beq_of_ne h]
    exact Idealize.ShloMosaic.Ideal.ofBits_zero_f32

/-- The lane table at its row and column. -/
theorem lane_entry (n : Fin 2048) (k : Fin 128) :
    FloatOps.ofBits (F := Ideal) .f32 (lit1 (S2048x128.rowMajor (ix2 n k))) = (if n.val % 128 = k.val then 1 else 0 : EReal) :=
  lane_word _ n k (by rw [Shape.rowMajor_val_two]; show n.val * 128 + k.val = _; omega)

/-- The block table at a slot and a block: one where the block is the slot's. -/
theorem block_word (i : Fin 32768) (n : Fin 2048) (j : Fin 16) (hv : i.val = 16 * n.val + j.val) :
    FloatOps.ofBits (F := Ideal) .bf16 (lit0 i) = (if n.val / 128 = j.val then 1 else 0 : EReal) := by
  rw [block_val, hv, block_chain, chain_eq _ _ _ 0 (by omega) (by omega), chain_eq _ _ _ 0 (by omega) (by omega), chain_eq _ _ _ 0 (by omega) (by omega)]
  have hd : 8 * ((16 * n.val + j.val) / 16384) + (16 * n.val + j.val) / 128 % 128 / 16 = n.val / 128 := by
    have e1 : (16 * n.val + j.val) / 128 = n.val / 8 := by omega
    have e2 : (16 * n.val + j.val) / 16384 = n.val / 1024 := by omega
    rw [e1, e2]
    omega
  have hm : (16 * n.val + j.val) % 128 % 16 = j.val := by
    rw [Nat.mod_mod_of_dvd _ (by decide : 16 ∣ 128)]
    omega
  rw [hd, hm]
  by_cases h : n.val / 128 = j.val
  · rw [if_pos h, beq_of_eq h]
    exact Idealize.ShloMosaic.Ideal.ofBits_one_bf16
  · rw [if_neg h, beq_of_ne h]
    exact Idealize.ShloMosaic.Ideal.ofBits_zero_bf16

/-- The block table at its row and column. -/
theorem block_entry (n : Fin 2048) (j : Fin 16) :
    FloatOps.ofBits (F := Ideal) .bf16 (lit0 (S2048x16.rowMajor (ix2 n j))) = (if n.val / 128 = j.val then 1 else 0 : EReal) :=
  block_word _ n j (by rw [Shape.rowMajor_val_two]; show n.val * 16 + j.val = _; omega)

end Cert.KernelIdeal.Slots

end
-- ==== Proof.Blocks.lean ====
/- What each input block holds at a grid point, in terms of the arguments: point `t` has the rows `16 t` to `16 t + 15`. -/
module

public import proofs.«01_k».proof.Proof.Gen.KernelIdeal.Frame
public import proofs.«01_k».proof.Proof.Entry
public import proofs.«01_k».proof.Proof.Spec
import Idealize.ShloMosaic.Lib.Pointwise
import Idealize.ShloMosaic.Lib.Tactic
public import Idealize.ShloMosaic.Lib.Pipeline.ValueKit

@[expose] public section

set_option maxRecDepth 16384

noncomputable section

namespace Cert.KernelIdeal.Slots

open Cert.KernelIdeal Cert.KernelIdeal.Gen Cert.Slots Idealize.ShloMosaic Idealize.ShloMosaic.TcCoe

variable (m : (ℓ : Loc nD τ sig) → Buf (Elt Ideal) ℓ) (c : Dev nD)

/-- The row of the arguments that a point has as its row `g`. -/
def row (t : Fin cfg0.N) (g : ℕ) (hg : g < 16) : Fin 256 := ⟨16 * t.val + g, by have : t.val < 16 := t.isLt; omega⟩

/-- The updated slots' mask as the region finds it. -/
theorem entry_v9 : V m c main_v9 = (extui 32 (shapeCast S4096x128 (show IVec S256x2048 1 from m ((c.tc : Thread nD τ).loc main_arg4)) shapeCasts_S256x2048_S4096x128) natLt_1_32 : IVec S4096x128 32) := by
  sl_kernel_rfl

/-- The retained slots' mask as the region finds it. -/
theorem entry_v10 : V m c main_v10 = (extui 32 (shapeCast S4096x128 (show IVec S256x2048 1 from m ((c.tc : Thread nD τ).loc main_arg3)) shapeCasts_S256x2048_S4096x128) natLt_1_32 : IVec S4096x128 32) := by
  sl_kernel_rfl

/-- The forgotten slots' mask as the region finds it. -/
theorem entry_v11 : V m c main_v11 = (extui 32 (shapeCast S4096x128 (show IVec S256x2048 1 from m ((c.tc : Thread nD τ).loc main_arg5)) shapeCasts_S256x2048_S4096x128) natLt_1_32 : IVec S4096x128 32) := by
  sl_kernel_rfl

/-- The update rows as the region finds them. -/
theorem entry_v4 : V m c main_v4 = (shapeCast S16x16x64 (show FVec Ideal S256x64 .f32 from m ((c.tc : Thread nD τ).loc main_arg1)) shapeCasts_S256x64_S16x16x64) := by sl_kernel_rfl

/-- The write rows as the region finds them. -/
theorem entry_v5 : V m c main_v5 = (shapeCast S16x16x64 (show FVec Ideal S256x64 .f32 from m ((c.tc : Thread nD τ).loc main_arg2)) shapeCasts_S256x64_S16x16x64) := by sl_kernel_rfl

/-- The empty row as the region finds it. -/
theorem entry_v0 : V m c main_v0 = (shapeCast S1x64 (show FVec Ideal S64 .f32 from m ((c.tc : Thread nD τ).loc main_arg0)) shapeCasts_S64_S1x64) := by sl_kernel_rfl

/-- The slot indices as the region finds them. -/
theorem entry_v6 : V m c main_v6 = (shapeCast S16x16x1 (show IVec S256 32 from m ((c.tc : Thread nD τ).loc main_arg7)) shapeCasts_S256_S16x16x1) := by sl_kernel_rfl

/-- The write flags as the region finds them. -/
theorem entry_v8 : V m c main_v8 = (shapeCast S16x16x1 (uitofp .f32 (show IVec S256 1 from m ((c.tc : Thread nD τ).loc main_arg6)) : FVec Ideal S256 .f32) shapeCasts_S256_S16x16x1) := by sl_kernel_rfl

/-- The table of blocks as the region finds it. -/
theorem entry_cst : V m c main_cst = (fun i => FloatOps.ofBits (F := Ideal) .bf16 (lit0 (S2048x16.rowMajor i)) : FVec Ideal S2048x16 .bf16) := by sl_kernel_rfl

/-- The table of lanes as the region finds it. -/
theorem entry_cst_0 : V m c main_cst_0 = (fun i => FloatOps.ofBits (F := Ideal) .f32 (lit1 (S2048x128.rowMajor i)) : FVec Ideal S2048x128 .f32) := by sl_kernel_rfl

/-- A bit read as a number, without a sign. -/
theorem uitofp_num (b : BitVec 1) : FloatOps.uitofp (F := Ideal) .f32 b = num b := by
  rcases bit_cases b with rfl | rfl <;> rfl

/-- The block of the updated slots' mask. -/
theorem block0 (t : Fin cfg0.N) (i : Fin 256) (j : Fin 128) :
    (show IVec S256x128 32 from iblk m c 0 t) (ix2 i j) = BitVec.setWidth 32 ((show IVec S256x2048 1 from m ((c.tc : Thread nD τ).loc main_arg4)) (ix2 (row t (i.val / 16) (by omega)) ⟨128 * (i.val % 16) + j.val, by omega⟩)) := by
  have e : ∀ t : Fin cfg0.N, win0_0.index t = ![t.val, 0] := (by decide +kernel : ∀ t : Fin grid0.N, _)
  have ht : t.val < 16 := t.isLt
  have hi : ((win0_0.blk t).view.emb (ix2 i j)) = (ix2 ⟨256 * t.val + i.val, by omega⟩ j : S4096x128.Idx) := by blk_ext [e]
  show V m c main_v9 ((win0_0.blk t).view.emb (ix2 i j)) = _
  rw [hi, entry_v9]
  pointwise
  exact congrArg (fun x => BitVec.setWidth 32 ((show IVec S256x2048 1 from m ((c.tc : Thread nD τ).loc main_arg4)) x))
    (congrArg₂ ix2 (Fin.ext (by show (256 * t.val + i.val) / 16 = 16 * t.val + i.val / 16; omega)) (Fin.ext (by show (256 * t.val + i.val) % 16 * 128 + j.val = 128 * (i.val % 16) + j.val; omega)))

/-- The block of the retained slots' mask. -/
theorem block1 (t : Fin cfg0.N) (i : Fin 256) (j : Fin 128) :
    (show IVec S256x128 32 from iblk m c 1 t) (ix2 i j) = BitVec.setWidth 32 ((show IVec S256x2048 1 from m ((c.tc : Thread nD τ).loc main_arg3)) (ix2 (row t (i.val / 16) (by omega)) ⟨128 * (i.val % 16) + j.val, by omega⟩)) := by
  have e : ∀ t : Fin cfg0.N, win0_1.index t = ![t.val, 0] := (by decide +kernel : ∀ t : Fin grid0.N, _)
  have ht : t.val < 16 := t.isLt
  have hi : ((win0_1.blk t).view.emb (ix2 i j)) = (ix2 ⟨256 * t.val + i.val, by omega⟩ j : S4096x128.Idx) := by blk_ext [e]
  show V m c main_v10 ((win0_1.blk t).view.emb (ix2 i j)) = _
  rw [hi, entry_v10]
  pointwise
  exact congrArg (fun x => BitVec.setWidth 32 ((show IVec S256x2048 1 from m ((c.tc : Thread nD τ).loc main_arg3)) x))
    (congrArg₂ ix2 (Fin.ext (by show (256 * t.val + i.val) / 16 = 16 * t.val + i.val / 16; omega)) (Fin.ext (by show (256 * t.val + i.val) % 16 * 128 + j.val = 128 * (i.val % 16) + j.val; omega)))

/-- The block of the forgotten slots' mask. -/
theorem block2 (t : Fin cfg0.N) (i : Fin 256) (j : Fin 128) :
    (show IVec S256x128 32 from iblk m c 2 t) (ix2 i j) = BitVec.setWidth 32 ((show IVec S256x2048 1 from m ((c.tc : Thread nD τ).loc main_arg5)) (ix2 (row t (i.val / 16) (by omega)) ⟨128 * (i.val % 16) + j.val, by omega⟩)) := by
  have e : ∀ t : Fin cfg0.N, win0_2.index t = ![t.val, 0] := (by decide +kernel : ∀ t : Fin grid0.N, _)
  have ht : t.val < 16 := t.isLt
  have hi : ((win0_2.blk t).view.emb (ix2 i j)) = (ix2 ⟨256 * t.val + i.val, by omega⟩ j : S4096x128.Idx) := by blk_ext [e]
  show V m c main_v11 ((win0_2.blk t).view.emb (ix2 i j)) = _
  rw [hi, entry_v11]
  pointwise
  exact congrArg (fun x => BitVec.setWidth 32 ((show IVec S256x2048 1 from m ((c.tc : Thread nD τ).loc main_arg5)) x))
    (congrArg₂ ix2 (Fin.ext (by show (256 * t.val + i.val) / 16 = 16 * t.val + i.val / 16; omega)) (Fin.ext (by show (256 * t.val + i.val) % 16 * 128 + j.val = 128 * (i.val % 16) + j.val; omega)))

/-- The block of the update rows. -/
theorem block3 (t : Fin cfg0.N) (g : Fin 16) (d : Fin 64) :
    (show FVec Ideal S1x16x64 .f32 from iblk m c 3 t) (ix3 0 g d) = (show FVec Ideal S256x64 .f32 from m ((c.tc : Thread nD τ).loc main_arg1)) (ix2 (row t g.val g.isLt) d) := by
  have e : ∀ t : Fin cfg0.N, win0_3.index t = ![t.val, 0, 0] := (by decide +kernel : ∀ t : Fin grid0.N, _)
  have ht : t.val < 16 := t.isLt
  have hi : ((win0_3.blk t).view.emb (ix3 0 g d)) = (ix3 ⟨t.val, ht⟩ g d : S16x16x64.Idx) := by blk_ext [e]
  show V m c main_v4 ((win0_3.blk t).view.emb (ix3 0 g d)) = _
  rw [hi, entry_v4]
  pointwise
  exact congrArg (fun x => (show FVec Ideal S256x64 .f32 from m ((c.tc : Thread nD τ).loc main_arg1)) (ix2 x d)) (Fin.ext (by show t.val * 16 + g.val = 16 * t.val + g.val; omega))

/-- The block of the write rows. -/
theorem block4 (t : Fin cfg0.N) (g : Fin 16) (d : Fin 64) :
    (show FVec Ideal S1x16x64 .f32 from iblk m c 4 t) (ix3 0 g d) = (show FVec Ideal S256x64 .f32 from m ((c.tc : Thread nD τ).loc main_arg2)) (ix2 (row t g.val g.isLt) d) := by
  have e : ∀ t : Fin cfg0.N, win0_4.index t = ![t.val, 0, 0] := (by decide +kernel : ∀ t : Fin grid0.N, _)
  have ht : t.val < 16 := t.isLt
  have hi : ((win0_4.blk t).view.emb (ix3 0 g d)) = (ix3 ⟨t.val, ht⟩ g d : S16x16x64.Idx) := by blk_ext [e]
  show V m c main_v5 ((win0_4.blk t).view.emb (ix3 0 g d)) = _
  rw [hi, entry_v5]
  pointwise
  exact congrArg (fun x => (show FVec Ideal S256x64 .f32 from m ((c.tc : Thread nD τ).loc main_arg2)) (ix2 x d)) (Fin.ext (by show t.val * 16 + g.val = 16 * t.val + g.val; omega))

/-- The block of the empty row. -/
theorem block5 (t : Fin cfg0.N) (d : Fin 64) :
    (show FVec Ideal S1x64 .f32 from iblk m c 5 t) (ix2 0 d) = (show FVec Ideal S64 .f32 from m ((c.tc : Thread nD τ).loc main_arg0)) (ix1 d) := by
  have e : ∀ t : Fin cfg0.N, win0_5.index t = ![0, 0] := (by decide +kernel : ∀ t : Fin grid0.N, _)
  have hi : ((win0_5.blk t).view.emb (ix2 0 d)) = (ix2 0 d : S1x64.Idx) := by blk_ext [e]
  show V m c main_v0 ((win0_5.blk t).view.emb (ix2 0 d)) = _
  rw [hi, entry_v0]
  pointwise

/-- The block of the slot indices. -/
theorem block6 (t : Fin cfg0.N) (g : Fin 16) :
    (show IVec S1x16x1 32 from iblk m c 6 t) (ix3 0 g 0) = (show IVec S256 32 from m ((c.tc : Thread nD τ).loc main_arg7)) (ix1 (row t g.val g.isLt)) := by
  have e : ∀ t : Fin cfg0.N, win0_6.index t = ![t.val, 0, 0] := (by decide +kernel : ∀ t : Fin grid0.N, _)
  have ht : t.val < 16 := t.isLt
  have hi : ((win0_6.blk t).view.emb (ix3 0 g 0)) = (ix3 ⟨t.val, ht⟩ g 0 : S16x16x1.Idx) := by blk_ext [e]
  show V m c main_v6 ((win0_6.blk t).view.emb (ix3 0 g 0)) = _
  rw [hi, entry_v6]
  pointwise
  exact congrArg (fun x => (show IVec S256 32 from m ((c.tc : Thread nD τ).loc main_arg7)) (ix1 x)) (Fin.ext (by show t.val * 16 + g.val = 16 * t.val + g.val; omega))

/-- The block of the write flags. -/
theorem block7 (t : Fin cfg0.N) (g : Fin 16) :
    (show FVec Ideal S1x16x1 .f32 from iblk m c 7 t) (ix3 0 g 0) = num ((show IVec S256 1 from m ((c.tc : Thread nD τ).loc main_arg6)) (ix1 (row t g.val g.isLt))) := by
  have e : ∀ t : Fin cfg0.N, win0_7.index t = ![t.val, 0, 0] := (by decide +kernel : ∀ t : Fin grid0.N, _)
  have ht : t.val < 16 := t.isLt
  have hi : ((win0_7.blk t).view.emb (ix3 0 g 0)) = (ix3 ⟨t.val, ht⟩ g 0 : S16x16x1.Idx) := by blk_ext [e]
  show V m c main_v8 ((win0_7.blk t).view.emb (ix3 0 g 0)) = _
  rw [hi, entry_v8]
  pointwise
  rw [← uitofp_num]
  exact congrArg (fun x => FloatOps.uitofp (F := Ideal) .f32 ((show IVec S256 1 from m ((c.tc : Thread nD τ).loc main_arg6)) (ix1 x))) (Fin.ext (by show t.val * 16 + g.val = 16 * t.val + g.val; omega))

/-- The table of blocks. -/
theorem block8 (t : Fin cfg0.N) (n : Fin 2048) (j : Fin 16) :
    (show FVec Ideal S2048x16 .bf16 from iblk m c 8 t) (ix2 n j) = (if n.val / 128 = j.val then 1 else 0 : EReal) := by
  have e : ∀ t : Fin cfg0.N, win0_8.index t = ![0, 0] := (by decide +kernel : ∀ t : Fin grid0.N, _)
  have hi : ((win0_8.blk t).view.emb (ix2 n j)) = (ix2 n j : S2048x16.Idx) := by blk_ext [e]
  show V m c main_cst ((win0_8.blk t).view.emb (ix2 n j)) = _
  rw [hi, entry_cst]
  exact block_entry n j

/-- The table of lanes. -/
theorem block9 (t : Fin cfg0.N) (n : Fin 2048) (k : Fin 128) :
    (show FVec Ideal S2048x128 .f32 from iblk m c 9 t) (ix2 n k) = (if n.val % 128 = k.val then 1 else 0 : EReal) := by
  have e : ∀ t : Fin cfg0.N, win0_9.index t = ![0, 0] := (by decide +kernel : ∀ t : Fin grid0.N, _)
  have hi : ((win0_9.blk t).view.emb (ix2 n k)) = (ix2 n k : S2048x128.Idx) := by blk_ext [e]
  show V m c main_cst_0 ((win0_9.blk t).view.emb (ix2 n k)) = _
  rw [hi, entry_cst_0]
  exact lane_entry n k

end Cert.KernelIdeal.Slots

end
-- ==== Proof.Cells.lean ====
/- The kernel body as one family of blocks: what it stores for batch row `g` of its sixteen and the `s`-th tile of 256 slots, and the row of statistics
   that it adds, each as one vector expression with `g` and `s` symbolic. -/
module

public import proofs.«01_k».proof.Proof.Gen.KernelIdeal.Frame

@[expose] public section

set_option maxRecDepth 16384

noncomputable section

namespace Cert.KernelIdeal.Slots

open Cert.KernelIdeal Cert.KernelIdeal.Gen Idealize.ShloMosaic Idealize.ShloMosaic.TcCoe

variable {F : FTy → Type} [FloatOps F]

theorem wm_at (g : Fin 16) : S16x1.Slices ![g.val, 0] S1x1 := by revert g; decide
theorem um_at (g : Fin 16) : S256x128.Slices ![16 * g.val, 0] S16x128 := by revert g; decide
theorem block_at (s : Fin 8) : S2048x16.Slices ![256 * s.val, 0] S256x16 := by revert s; decide
theorem lane_at (s : Fin 8) : S2048x128.Slices ![256 * s.val, 0] S256x128 := by revert s; decide
theorem idx_in (g : Fin 16) : ∀ a, (![0, g.val, 0] : Fin 3 → ℕ) a + S1x1x1.size a ≤ S1x16x1.size a := by revert g; decide
theorem val_in (g : Fin 16) : ∀ a, (![0, g.val, 0] : Fin 3 → ℕ) a + S1x1x64.size a ≤ S1x16x64.size a := by revert g; decide
theorem out_in (k : Fin 128) : ∀ a, (![k.rev.val / 8, 256 * (k.rev.val % 8), 0] : Fin 3 → ℕ) a + S1x256x64.size a ≤ S16x2048x64.size a := by revert k; decide

/-- Row `g`'s mark of the slot it overwrites, over the sixteen blocks of 128 slots. -/
def mark (wm : FVec F S16x1 .f32) (ix : Vec F S1x1x1 .i32) (g : Fin 16) : FVec F S16x128 .f32 :=
  mulf (sitofp .f32 (extui 32 (cmpi .eq k0_pay9 (broadcast S16x128 (Scalar.minsi 2047#32 (Scalar.maxsi 0#32 (extractAt ![0, 0, 0] ix inpos_S1x1x1_p0_0_0))))) natLt_1_32))
    (broadcast S16x128 (extractAt ![0, 0] (extractStridedSlice S1x1 ![g.val, 0] wm (wm_at g)) inpos_S1x1_p0_0))

/-- Row `g`'s coefficients: of the half-way update in the first 128 columns, of the overwriting in the last. -/
def coeff (um : FVec F S256x128 .f32) (a : FVec F S16x128 .f32) (g : Fin 16) : FVec F S16x256 .bf16 :=
  truncf .bf16 (concatenate S16x256 1 [⟨S16x128, mulf (extractStridedSlice S16x128 ![16 * g.val, 0] um (um_at g)) (subf (broadcast S16x128 (Scalar.ofBits .f32 0x3F800000#32)) a)⟩, ⟨S16x128, a⟩]
    concatenates_S16x128_S16x128_S16x256_d1) bitsLt_bf16_f32

/-- The coefficients of tile `s`, a row of 256 columns for each slot: its block's row. -/
def spread (b : FVec F S2048x16 .bf16) (k : FVec F S16x256 .bf16) (s : Fin 8) : FVec F S256x256 .f32 :=
  matmul dot_S256x16_S16x256_S256x256_1_0_0_1_n_n none (extractStridedSlice S256x16 ![256 * s.val, 0] b (block_at s)) k (constant S256x256 .f32 0x00000000#32)

/-- The tile that the kernel stores for row `g` and tile `s`. -/
def cell (e : FVec F S1x64 .f32) (um : FVec F S256x128 .f32) (b : FVec F S2048x16 .bf16) (l : FVec F S2048x128 .f32) (wm : FVec F S16x1 .f32)
    (ix : Vec F S1x1x1 .i32) (u w : Vec F S1x1x64 .f32) (g : Fin 16) (s : Fin 8) : FVec F S1x256x64 .f32 :=
  shapeCast S1x256x64
    (addf (addf (broadcastTo S256x64 e broadcasts_S1x64_S256x64)
      (matmul dot_S256x128_S128x64_S256x64_1_0_0_1_n_n none
        (mulf (extractStridedSlice S256x128 ![0, 0] (spread b (coeff um (mark wm ix g) g) s) slices_S256x256_o0_0_S256x128) (extractStridedSlice S256x128 ![256 * s.val, 0] l (lane_at s)))
        (k0_pay14 e u) (constant S256x64 .f32 0x00000000#32)))
      (matmul dot_S256x128_S128x64_S256x64_1_0_0_1_n_n none
        (mulf (extractStridedSlice S256x128 ![0, 128] (spread b (coeff um (mark wm ix g) g) s) slices_S256x256_o0_128_S256x128) (extractStridedSlice S256x128 ![256 * s.val, 0] l (lane_at s)))
        (k0_pay15 e w) (constant S256x64 .f32 0x00000000#32)))
    shapeCasts_S256x64_S1x256x64

/-- The sixteen rows' marks, one under the other. -/
def marks (wm : FVec F S16x1 .f32) (ix : Fin 16 → Vec F S1x1x1 .i32) : FVec F S256x128 .f32 :=
  concatenate S256x128 0 (List.ofFn fun g : Fin 16 => ⟨S16x128, mark wm (ix g) g⟩)
    concatenates_S16x128_S16x128_S16x128_S16x128_S16x128_S16x128_S16x128_S16x128_S16x128_S16x128_S16x128_S16x128_S16x128_S16x128_S16x128_S16x128_S256x128_d0

/-- The statistics after the point, from those before it. -/
def stats (um rm fm : FVec F S256x128 .f32) (wm : FVec F S16x1 .f32) (ix : Fin 16 → Vec F S1x1x1 .i32) (prev : FVec F S1x128 .f32) : FVec F S1x128 .f32 :=
  k0_pay2 (k0_pay317 um wm (marks wm ix) (k0_pay316 um rm)) k0_pay318 (k0_pay319 fm) k0_pay320 prev

/-- The tiles, in the order in which the last stored comes first. -/
def tiles (e : FVec F S1x64 .f32) (um : FVec F S256x128 .f32) (b : FVec F S2048x16 .bf16) (l : FVec F S2048x128 .f32) (wm : FVec F S16x1 .f32)
    (ix : Fin 16 → Vec F S1x1x1 .i32) (u w : Fin 16 → Vec F S1x1x64 .f32) : List (View.Piece (Elt F) S16x2048x64 .f32) :=
  List.ofFn fun k : Fin 128 => ⟨Rect.unit (s := S16x2048x64) ![k.rev.val / 8, 256 * (k.rev.val % 8), 0] S1x256x64.size (out_in k),
    cell e um b l wm (ix ⟨k.rev.val / 8, by omega⟩) (u ⟨k.rev.val / 8, by omega⟩) (w ⟨k.rev.val / 8, by omega⟩) ⟨k.rev.val / 8, by omega⟩ ⟨k.rev.val % 8, by omega⟩⟩

end Cert.KernelIdeal.Slots

end
-- ==== Proof.Pieces.lean ====
/- What the body's stores leave at each of its three kinds of grid point, as the family of blocks. -/
module

public import proofs.«01_k».proof.Proof.Cells

@[expose] public section

set_option maxRecDepth 16384

noncomputable section

namespace Cert.KernelIdeal.Slots

open Cert.KernelIdeal Cert.KernelIdeal.Gen Idealize.ShloMosaic Idealize.ShloMosaic.TcCoe

variable {F : FTy → Type} [FloatOps F]

variable (c : Dev nD) (i : grid0.Coords) (arg1 : Memref sig .tc .vmem S256x128 .i32) (harg1 : arg1.IsWhole) (arg2 : Memref sig .tc .vmem S256x128 .i32) (harg2 : arg2.IsWhole) (arg3 : Memref sig .tc .vmem S256x128 .i32) (harg3 : arg3.IsWhole) (arg4 : Memref sig .tc .vmem S1x16x64 .f32) (harg4 : arg4.IsWhole) (arg5 : Memref sig .tc .vmem S1x16x64 .f32) (harg5 : arg5.IsWhole) (arg6 : Memref sig .tc .vmem S1x64 .f32) (harg6 : arg6.IsWhole) (arg7 : Memref sig .tc .vmem S1x16x1 .i32) (harg7 : arg7.IsWhole) (arg8 : Memref sig .tc .vmem S1x16x1 .f32) (harg8 : arg8.IsWhole) (arg9 : Memref sig .tc .vmem S2048x16 .bf16) (harg9 : arg9.IsWhole) (arg10 : Memref sig .tc .vmem S2048x128 .f32) (harg10 : arg10.IsWhole) (arg11 : Memref sig .tc .vmem S16x2048x64 .f32) (harg11 : arg11.IsWhole) (arg12 : Memref sig .tc .vmem S1x128 .f32) (harg12 : arg12.IsWhole)
  (x0 x1 x2 : Vec F S256x128 .i32) (x3 x4 : Vec F S1x16x64 .f32) (x5 : Vec F S1x64 .f32) (x6 : Vec F S1x16x1 .i32) (x7 : Vec F S1x16x1 .f32) (x8 : Vec F S2048x16 .bf16) (x9 : Vec F S2048x128 .f32) (x11 : Vec F S1x128 .f32)

/-- The tiles stored at the first point. -/
theorem tiles_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).1 = tiles (k0_pay4 (View.readAt (Elt F) arg6.view (Rect.unit (s := S1x64) ![0, 0] S1x64.size inb_S1x64_S1x64_0_0).toLoadRect (harg6.unread x5))) (k0_pay5 (View.readAt (Elt F) arg1.view (Rect.unit (s := S256x128) ![0, 0] S256x128.size inb_S256x128_S256x128_0_0).toLoadRect (harg1.unread x0))) (View.readAt (Elt F) arg9.view (Rect.unit (s := S2048x16) ![0, 0] S2048x16.size inb_S2048x16_S2048x16_0_0).toLoadRect (harg9.unread x8)) (View.readAt (Elt F) arg10.view (Rect.unit (s := S2048x128) ![0, 0] S2048x128.size inb_S2048x128_S2048x128_0_0).toLoadRect (harg10.unread x9)) (k0_pay8 (View.readAt (Elt F) arg8.view (Rect.unit (s := S1x16x1) ![0, 0, 0] S1x16x1.size inb_S1x16x1_S1x16x1_0_0_0).toLoadRect (harg8.unread x7)))
      (fun g => (View.readAt (Elt F) arg7.view (Rect.unit (s := S1x16x1) ![0, g.val, 0] S1x1x1.size (idx_in g)).toLoadRect (harg7.unread x6)))
      (fun g => (View.readAt (Elt F) arg4.view (Rect.unit (s := S1x16x64) ![0, g.val, 0] S1x1x64.size (val_in g)).toLoadRect (harg4.unread x3)))
      (fun g => (View.readAt (Elt F) arg5.view (Rect.unit (s := S1x16x64) ![0, g.val, 0] S1x1x64.size (val_in g)).toLoadRect (harg5.unread x4))) := by sl_kernel_rfl

/-- The tiles stored at a middle point. -/
theorem tiles_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x11).1 = tiles (k0_pay4 (View.readAt (Elt F) arg6.view (Rect.unit (s := S1x64) ![0, 0] S1x64.size inb_S1x64_S1x64_0_0).toLoadRect (harg6.unread x5))) (k0_pay5 (View.readAt (Elt F) arg1.view (Rect.unit (s := S256x128) ![0, 0] S256x128.size inb_S256x128_S256x128_0_0).toLoadRect (harg1.unread x0))) (View.readAt (Elt F) arg9.view (Rect.unit (s := S2048x16) ![0, 0] S2048x16.size inb_S2048x16_S2048x16_0_0).toLoadRect (harg9.unread x8)) (View.readAt (Elt F) arg10.view (Rect.unit (s := S2048x128) ![0, 0] S2048x128.size inb_S2048x128_S2048x128_0_0).toLoadRect (harg10.unread x9)) (k0_pay8 (View.readAt (Elt F) arg8.view (Rect.unit (s := S1x16x1) ![0, 0, 0] S1x16x1.size inb_S1x16x1_S1x16x1_0_0_0).toLoadRect (harg8.unread x7)))
      (fun g => (View.readAt (Elt F) arg7.view (Rect.unit (s := S1x16x1) ![0, g.val, 0] S1x1x1.size (idx_in g)).toLoadRect (harg7.unread x6)))
      (fun g => (View.readAt (Elt F) arg4.view (Rect.unit (s := S1x16x64) ![0, g.val, 0] S1x1x64.size (val_in g)).toLoadRect (harg4.unread x3)))
      (fun g => (View.readAt (Elt F) arg5.view (Rect.unit (s := S1x16x64) ![0, g.val, 0] S1x1x64.size (val_in g)).toLoadRect (harg5.unread x4))) := by sl_kernel_rfl

/-- The statistics stored at a middle point. -/
theorem stats_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x11).2.1 = [⟨Rect.unit (s := S1x128) ![0, 0] S1x128.size inb_S1x128_S1x128_0_0, stats (k0_pay5 (View.readAt (Elt F) arg1.view (Rect.unit (s := S256x128) ![0, 0] S256x128.size inb_S256x128_S256x128_0_0).toLoadRect (harg1.unread x0))) (k0_pay6 (View.readAt (Elt F) arg2.view (Rect.unit (s := S256x128) ![0, 0] S256x128.size inb_S256x128_S256x128_0_0).toLoadRect (harg2.unread x1))) (k0_pay7 (View.readAt (Elt F) arg3.view (Rect.unit (s := S256x128) ![0, 0] S256x128.size inb_S256x128_S256x128_0_0).toLoadRect (harg3.unread x2))) (k0_pay8 (View.readAt (Elt F) arg8.view (Rect.unit (s := S1x16x1) ![0, 0, 0] S1x16x1.size inb_S1x16x1_S1x16x1_0_0_0).toLoadRect (harg8.unread x7))) (fun g => (View.readAt (Elt F) arg7.view (Rect.unit (s := S1x16x1) ![0, g.val, 0] S1x1x1.size (idx_in g)).toLoadRect (harg7.unread x6))) (View.readAt (Elt F) arg12.view (Rect.unit (s := S1x128) ![0, 0] S1x128.size inb_S1x128_S1x128_0_0).toLoadRect (harg12.unread x11))⟩] := by sl_kernel_rfl

/-- The tiles stored at the last point. -/
theorem tiles_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x11).1 = tiles (k0_pay4 (View.readAt (Elt F) arg6.view (Rect.unit (s := S1x64) ![0, 0] S1x64.size inb_S1x64_S1x64_0_0).toLoadRect (harg6.unread x5))) (k0_pay5 (View.readAt (Elt F) arg1.view (Rect.unit (s := S256x128) ![0, 0] S256x128.size inb_S256x128_S256x128_0_0).toLoadRect (harg1.unread x0))) (View.readAt (Elt F) arg9.view (Rect.unit (s := S2048x16) ![0, 0] S2048x16.size inb_S2048x16_S2048x16_0_0).toLoadRect (harg9.unread x8)) (View.readAt (Elt F) arg10.view (Rect.unit (s := S2048x128) ![0, 0] S2048x128.size inb_S2048x128_S2048x128_0_0).toLoadRect (harg10.unread x9)) (k0_pay8 (View.readAt (Elt F) arg8.view (Rect.unit (s := S1x16x1) ![0, 0, 0] S1x16x1.size inb_S1x16x1_S1x16x1_0_0_0).toLoadRect (harg8.unread x7)))
      (fun g => (View.readAt (Elt F) arg7.view (Rect.unit (s := S1x16x1) ![0, g.val, 0] S1x1x1.size (idx_in g)).toLoadRect (harg7.unread x6)))
      (fun g => (View.readAt (Elt F) arg4.view (Rect.unit (s := S1x16x64) ![0, g.val, 0] S1x1x64.size (val_in g)).toLoadRect (harg4.unread x3)))
      (fun g => (View.readAt (Elt F) arg5.view (Rect.unit (s := S1x16x64) ![0, g.val, 0] S1x1x64.size (val_in g)).toLoadRect (harg5.unread x4))) := by sl_kernel_rfl

/-- The statistics stored at the first point, over the zeroes stored just before. -/
theorem stats_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1 = [⟨Rect.unit (s := S1x128) ![0, 0] S1x128.size inb_S1x128_S1x128_0_0, stats (k0_pay5 (View.readAt (Elt F) arg1.view (Rect.unit (s := S256x128) ![0, 0] S256x128.size inb_S256x128_S256x128_0_0).toLoadRect (harg1.unread x0))) (k0_pay6 (View.readAt (Elt F) arg2.view (Rect.unit (s := S256x128) ![0, 0] S256x128.size inb_S256x128_S256x128_0_0).toLoadRect (harg2.unread x1))) (k0_pay7 (View.readAt (Elt F) arg3.view (Rect.unit (s := S256x128) ![0, 0] S256x128.size inb_S256x128_S256x128_0_0).toLoadRect (harg3.unread x2))) (k0_pay8 (View.readAt (Elt F) arg8.view (Rect.unit (s := S1x16x1) ![0, 0, 0] S1x16x1.size inb_S1x16x1_S1x16x1_0_0_0).toLoadRect (harg8.unread x7))) (fun g => (View.readAt (Elt F) arg7.view (Rect.unit (s := S1x16x1) ![0, g.val, 0] S1x1x1.size (idx_in g)).toLoadRect (harg7.unread x6))) (View.readCov (Val := Elt F) arg12.view [⟨Rect.unit (s := S1x128) ![0, 0] S1x128.size inb_S1x128_S1x128_0_0, k0_pay1 (F := F)⟩] (Rect.unit (s := S1x128) ![0, 0] S1x128.size inb_S1x128_S1x128_0_0).toLoadRect)⟩, ⟨Rect.unit (s := S1x128) ![0, 0] S1x128.size inb_S1x128_S1x128_0_0, k0_pay1 (F := F)⟩] := by sl_kernel_rfl

/-- The statistics stored at the last point, and then scaled lane by lane. -/
theorem stats_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 x11).2.1 = [⟨Rect.unit (s := S1x128) ![0, 0] S1x128.size inb_S1x128_S1x128_0_0, k0_pay3 (iota .tc S1x128 32 [1] iota_S1x128_d1_w32) (View.readCov (Val := Elt F) arg12.view [⟨Rect.unit (s := S1x128) ![0, 0] S1x128.size inb_S1x128_S1x128_0_0, stats (k0_pay5 (View.readAt (Elt F) arg1.view (Rect.unit (s := S256x128) ![0, 0] S256x128.size inb_S256x128_S256x128_0_0).toLoadRect (harg1.unread x0))) (k0_pay6 (View.readAt (Elt F) arg2.view (Rect.unit (s := S256x128) ![0, 0] S256x128.size inb_S256x128_S256x128_0_0).toLoadRect (harg2.unread x1))) (k0_pay7 (View.readAt (Elt F) arg3.view (Rect.unit (s := S256x128) ![0, 0] S256x128.size inb_S256x128_S256x128_0_0).toLoadRect (harg3.unread x2))) (k0_pay8 (View.readAt (Elt F) arg8.view (Rect.unit (s := S1x16x1) ![0, 0, 0] S1x16x1.size inb_S1x16x1_S1x16x1_0_0_0).toLoadRect (harg8.unread x7))) (fun g => (View.readAt (Elt F) arg7.view (Rect.unit (s := S1x16x1) ![0, g.val, 0] S1x1x1.size (idx_in g)).toLoadRect (harg7.unread x6))) (View.readAt (Elt F) arg12.view (Rect.unit (s := S1x128) ![0, 0] S1x128.size inb_S1x128_S1x128_0_0).toLoadRect (harg12.unread x11))⟩] (Rect.unit (s := S1x128) ![0, 0] S1x128.size inb_S1x128_S1x128_0_0).toLoadRect)⟩, ⟨Rect.unit (s := S1x128) ![0, 0] S1x128.size inb_S1x128_S1x128_0_0, stats (k0_pay5 (View.readAt (Elt F) arg1.view (Rect.unit (s := S256x128) ![0, 0] S256x128.size inb_S256x128_S256x128_0_0).toLoadRect (harg1.unread x0))) (k0_pay6 (View.readAt (Elt F) arg2.view (Rect.unit (s := S256x128) ![0, 0] S256x128.size inb_S256x128_S256x128_0_0).toLoadRect (harg2.unread x1))) (k0_pay7 (View.readAt (Elt F) arg3.view (Rect.unit (s := S256x128) ![0, 0] S256x128.size inb_S256x128_S256x128_0_0).toLoadRect (harg3.unread x2))) (k0_pay8 (View.readAt (Elt F) arg8.view (Rect.unit (s := S1x16x1) ![0, 0, 0] S1x16x1.size inb_S1x16x1_S1x16x1_0_0_0).toLoadRect (harg8.unread x7))) (fun g => (View.readAt (Elt F) arg7.view (Rect.unit (s := S1x16x1) ![0, g.val, 0] S1x1x1.size (idx_in g)).toLoadRect (harg7.unread x6))) (View.readAt (Elt F) arg12.view (Rect.unit (s := S1x128) ![0, 0] S1x128.size inb_S1x128_S1x128_0_0).toLoadRect (harg12.unread x11))⟩] := by sl_kernel_rfl

end Cert.KernelIdeal.Slots

end
-- ==== Proof.Cell.lean ====
/- One tile of the kernel's memory at one entry: the selected row. -/
module

public import proofs.«01_k».proof.Proof.Cells
public import proofs.«01_k».proof.Proof.Spec
import Idealize.ShloMosaic.Lib.Pointwise
import Idealize.ShloMosaic.Lib.Pipeline.ValueKit

@[expose] public section

set_option maxRecDepth 16384

noncomputable section

namespace Cert.KernelIdeal.Slots

open Cert.KernelIdeal Cert.KernelIdeal.Gen Cert.Slots Idealize.ShloMosaic Idealize.ShloMosaic.TcCoe

/-- A bit widened to a word and read as a number. -/
theorem widened (b : BitVec 1) : FloatOps.sitofp (F := Ideal) .f32 (BitVec.setWidth 32 b) = num b := by
  rcases bit_cases b with rfl | rfl
  · exact congrArg (fun z : ℤ => (((z : ℝ) : EReal))) (by decide : (BitVec.setWidth 32 0#1).toInt = 0) |>.trans (by simp)
  · exact congrArg (fun z : ℤ => (((z : ℝ) : EReal))) (by decide : (BitVec.setWidth 32 1#1).toInt = 1) |>.trans (by simp)

/-- A mark: the row's flag at the slot that its clipped index names, zero elsewhere. -/
theorem mark_at (wm : FVec Ideal S16x1 .f32) (x : Vec Ideal S1x1x1 .i32) (g : Fin 16) (j : Fin 16) (k : Fin 128) :
    mark wm x g (ix2 j k) = if (clip (x (ix3 0 0 0))).toNat = 128 * j.val + k.val then wm (ix2 g 0) else 0 := by
  pointwise [mark, k0_pay9]
  have hc := clip_lt (x (ix3 0 0 0))
  change FloatOps.sitofp (F := Ideal) .f32 (BitVec.setWidth 32 (IntOp.cmpi .eq (IntOp.addi (IntOp.muli (BitVec.ofNat 32 j) 128#32) (BitVec.ofNat 32 k)) (clip (x (ix3 0 0 0))))) * _ = _
  generalize clip (x (ix3 0 0 0)) = t at hc ⊢
  have hp : (IntOp.addi (IntOp.muli (BitVec.ofNat 32 j) 128#32) (BitVec.ofNat 32 k) = t) ↔ t.toNat = 128 * j.val + k.val := by
    rw [← BitVec.toNat_inj]
    simp only [IntOp.addi, IntOp.muli, BitVec.toNat_add, BitVec.toNat_mul, BitVec.toNat_ofNat]
    omega
  rw [widened]
  by_cases h : t.toNat = 128 * j.val + k.val
  · rw [if_pos h, hp.mpr h, show IntOp.cmpi .eq t t = 1#1 by simp [IntOp.cmpi], num_1, one_mul]
  · rw [if_neg h, show IntOp.cmpi .eq _ t = 0#1 from congrArg BitVec.ofBool (beq_eq_false_iff_ne.mpr (mt hp.mp h)), num_0, zero_mul]

/-- The coefficient of the half-way update. -/
theorem coeff_lo (um : FVec Ideal S256x128 .f32) (a : FVec Ideal S16x128 .f32) (g : Fin 16) (j : Fin 16) (k : Fin 128) :
    coeff um a g (ix2 j ⟨k, by omega⟩) = um (ix2 ⟨16 * g.val + j.val, by omega⟩ k) * (1 - a (ix2 j k)) := by
  pointwise [coeff]

/-- The coefficient of the overwriting. -/
theorem coeff_hi (um : FVec Ideal S256x128 .f32) (a : FVec Ideal S16x128 .f32) (g : Fin 16) (j : Fin 16) (k : Fin 128) :
    coeff um a g (ix2 j ⟨128 + k, by omega⟩) = a (ix2 j k) := by
  pointwise [coeff]

/-- A sum that a table's row of one single one picks an entry of. -/
theorem sum_pick {n : ℕ} (i : Fin n) (p : ℕ) (hp : p = i.val) (f : Fin n → EReal) : ∑ x : Fin n, (if p = x.val then (1 : EReal) else 0) * f x = f i := by
  subst hp
  rw [Finset.sum_eq_single i (fun x _ h => by rw [if_neg fun e => h (Fin.ext e.symm), zero_mul]) (fun h => absurd (Finset.mem_univ _) h), if_pos rfl, one_mul]

/-- With the block table's ones in place, a slot's coefficients are those of its block. -/
theorem spread_at (b : FVec Ideal S2048x16 .bf16) (hb : ∀ n j, b (ix2 n j) = if n.val / 128 = j.val then 1 else 0)
    (c : FVec Ideal S16x256 .bf16) (s : Fin 8) (r : Fin 256) (k : Fin 256) :
    spread b c s (ix2 r k) = c (ix2 ⟨(256 * s.val + r.val) / 128, by omega⟩ k) := by
  pointwise [spread]
  simp only [hb]
  exact sum_pick ⟨(256 * s.val + r.val) / 128, by omega⟩ _ rfl fun x => c (ix2 x k)

/-- The half-way step: half the value less half the empty row. -/
theorem half_at (e : FVec Ideal S1x64 .f32) (u : Vec Ideal S1x1x64 .f32) (k : Fin 128) (d : Fin 64) :
    k0_pay14 e u (ix2 k d) = ((1 / 2 : ℝ) : EReal) * u (ix3 0 0 d) - ((1 / 2 : ℝ) : EReal) * e (ix2 0 d) := by
  pointwise [k0_pay14]
  rw [ofBits_half]

/-- The overwriting step: the value less the empty row. -/
theorem full_at (e : FVec Ideal S1x64 .f32) (w : Vec Ideal S1x1x64 .f32) (k : Fin 128) (d : Fin 64) : k0_pay15 e w (ix2 k d) = w (ix3 0 0 d) - e (ix2 0 d) := by
  pointwise [k0_pay15]

/-- A sum of products whose second factor is a table's row of one single one. -/
theorem sum_pick_mid {n : ℕ} (i : Fin n) (p : ℕ) (hp : p = i.val) (f h : Fin n → EReal) :
    ∑ x : Fin n, f x * (if p = x.val then (1 : EReal) else 0) * h x = f i * h i := by
  rw [← sum_pick i p hp fun x => f x * h x]
  exact Finset.sum_congr rfl fun x _ => by rw [mul_comm (f x), mul_assoc]

/-- A tile's entry with both tables in place: the empty row plus the two weighted steps. -/
theorem cell_at (e : FVec Ideal S1x64 .f32) (um : FVec Ideal S256x128 .f32) (b : FVec Ideal S2048x16 .bf16) (l : FVec Ideal S2048x128 .f32) (wm : FVec Ideal S16x1 .f32)
    (hb : ∀ n j, b (ix2 n j) = if n.val / 128 = j.val then 1 else 0) (hl : ∀ n k, l (ix2 n k) = if n.val % 128 = k.val then 1 else 0)
    (x : Vec Ideal S1x1x1 .i32) (u w : Vec Ideal S1x1x64 .f32) (g : Fin 16) (s : Fin 8) (r : Fin 256) (d : Fin 64) :
    cell e um b l wm x u w g s (ix3 0 r d) = e (ix2 0 d)
      + um (ix2 ⟨16 * g.val + (256 * s.val + r.val) / 128, by omega⟩ ⟨(256 * s.val + r.val) % 128, by omega⟩)
          * (1 - if (clip (x (ix3 0 0 0))).toNat = 256 * s.val + r.val then wm (ix2 g 0) else 0)
          * (((1 / 2 : ℝ) : EReal) * u (ix3 0 0 d) - ((1 / 2 : ℝ) : EReal) * e (ix2 0 d))
      + (if (clip (x (ix3 0 0 0))).toNat = 256 * s.val + r.val then wm (ix2 g 0) else 0) * (w (ix3 0 0 d) - e (ix2 0 d)) := by
  have hS := spread_at b hb (coeff um (mark wm x g) g) s r
  have hm := mark_at wm x g ⟨(256 * s.val + r.val) / 128, by omega⟩ ⟨(256 * s.val + r.val) % 128, by omega⟩
  rw [Nat.div_add_mod] at hm
  have h1 := (hS ⟨(256 * s.val + r.val) % 128, by omega⟩).trans (coeff_lo um (mark wm x g) g _ ⟨(256 * s.val + r.val) % 128, by omega⟩)
  have h2 := (hS ⟨128 + (256 * s.val + r.val) % 128, by omega⟩).trans (coeff_hi um (mark wm x g) g _ ⟨(256 * s.val + r.val) % 128, by omega⟩)
  rw [hm] at h1 h2
  have hH := half_at e u
  have hW := full_at e w
  unfold cell
  generalize spread b (coeff um (mark wm x g) g) s = S at h1 h2 ⊢
  generalize k0_pay14 e u = H at hH ⊢
  generalize k0_pay15 e w = W at hW ⊢
  pointwise []
  simp only [hl]
  rw [sum_pick_mid ⟨(256 * s.val + r.val) % 128, by omega⟩ _ rfl (fun x => S (ix2 r ⟨x.val, by omega⟩)) (fun x => H (ix2 x d)),
    sum_pick_mid ⟨(256 * s.val + r.val) % 128, by omega⟩ _ rfl (fun x => S (ix2 r ⟨128 + x.val, by omega⟩)) (fun x => W (ix2 x d)), hH, hW]
  exact congrArg₂ _ (congrArg₂ _ rfl (congrArg₂ _ h1 rfl)) (congrArg₂ _ h2 rfl)

/-- From a finite number, the full step to any value arrives there. -/
theorem full_step (e : ℝ) (w : EReal) : (e : EReal) + (w - (e : EReal)) = w := by
  induction w with
  | bot => rfl
  | top => rfl
  | coe w => norm_cast; ring_nf

/-- From a finite number, the half-way step arrives half way. -/
theorem half_step (e : ℝ) (u : EReal) :
    (e : EReal) + (((1 / 2 : ℝ) : EReal) * u - ((1 / 2 : ℝ) : EReal) * (e : EReal)) = ((1 / 2 : ℝ) : EReal) * (e : EReal) + ((1 / 2 : ℝ) : EReal) * u := by
  induction u with
  | bot =>
    rw [EReal.coe_mul_bot_of_pos (by norm_num : (0:ℝ) < 1/2)]
    rfl
  | top =>
    rw [EReal.coe_mul_top_of_pos (by norm_num : (0:ℝ) < 1/2)]
    rfl
  | coe u => norm_cast; ring_nf

/-- The two weighted steps from a finite empty row select the slot's row. -/
theorem select_row (t n : ℕ) (bu bw : BitVec 1) (e : ℝ) (u w : EReal) :
    (e : EReal) + num bu * (1 - if t = n then num bw else 0) * (((1 / 2 : ℝ) : EReal) * u - ((1 / 2 : ℝ) : EReal) * (e : EReal))
      + (if t = n then num bw else 0) * (w - (e : EReal)) = slotRow (t = n ∧ bw = 1#1) bu (e : EReal) u w := by
  have one : (1 : EReal) - 1 = 0 := EReal.sub_self (EReal.coe_ne_top 1) (EReal.coe_ne_bot 1)
  unfold slotRow
  by_cases h : t = n ∧ bw = 1#1
  · obtain ⟨h1, rfl⟩ := h
    rw [if_pos h1, if_pos ⟨h1, rfl⟩, num_1, one, mul_zero, zero_mul, add_zero, one_mul, full_step]
  · have hz : (if t = n then num bw else 0) = 0 := by
      by_cases h1 : t = n
      · rcases bit_cases bw with rfl | rfl
        · rw [if_pos h1, num_0]
        · exact absurd ⟨h1, rfl⟩ h
      · exact if_neg h1
    rw [if_neg h, hz, zero_mul, add_zero, sub_zero, mul_one]
    rcases bit_cases bu with rfl | rfl
    · rw [num_0, zero_mul, add_zero, if_neg (by decide)]
    · rw [num_1, one_mul, if_pos rfl, half_step]

end Cert.KernelIdeal.Slots

end
-- ==== Proof.Memory.lean ====
/- The new memory, entry by entry: what the body's tiles leave in the block of a grid point. -/
module

public import proofs.«01_k».proof.Proof.Pieces
public import proofs.«01_k».proof.Proof.Cell
import Idealize.ShloMosaic.Lib.Pointwise
public import Idealize.ShloMosaic.Lib.Pipeline.ValueKit

@[expose] public section

set_option maxRecDepth 16384

noncomputable section

namespace Cert.KernelIdeal.Slots

open Cert.KernelIdeal Cert.KernelIdeal.Gen Cert.Slots Idealize.ShloMosaic Idealize.ShloMosaic.TcCoe

/-- The tiles read back at a slot: the selected row. -/
theorem tiles_value (e : FVec Ideal S1x64 .f32) (um : FVec Ideal S256x128 .f32) (b : FVec Ideal S2048x16 .bf16) (l : FVec Ideal S2048x128 .f32) (wm : FVec Ideal S16x1 .f32)
    (ix : Fin 16 → Vec Ideal S1x1x1 .i32) (u w : Fin 16 → Vec Ideal S1x1x64 .f32)
    (er : Fin 64 → ℝ) (ub : Fin 256 → Fin 128 → BitVec 1) (wb : Fin 16 → BitVec 1)
    (he : ∀ d, e (ix2 0 d) = (er d : EReal)) (hum : ∀ i j, um (ix2 i j) = num (ub i j)) (hwm : ∀ g, wm (ix2 g 0) = num (wb g))
    (hb : ∀ n j, b (ix2 n j) = if n.val / 128 = j.val then 1 else 0) (hl : ∀ n k, l (ix2 n k) = if n.val % 128 = k.val then 1 else 0)
    (g : Fin 16) (n : Fin 2048) (d : Fin 64) :
    View.canon (tiles e um b l wm ix u w) (ix3 g n d)
      = slotRow ((clip (ix g (ix3 0 0 0))).toNat = n.val ∧ wb g = 1#1) (ub ⟨16 * g.val + n.val / 128, by omega⟩ ⟨n.val % 128, by omega⟩)
          (er d : EReal) (u g (ix3 0 0 d)) (w g (ix3 0 0 d)) := by
  unfold tiles
  refine View.canon_ofFn_unit_eq_of_forall _ _ _ _ _ _ ⟨⟨127 - (8 * g.val + n.val / 256), by omega⟩, fun a => ?_⟩ fun k => ?_
  · have hr : (Fin.rev (⟨127 - (8 * g.val + n.val / 256), by omega⟩ : Fin 128)).val = 8 * g.val + n.val / 256 := by rw [Fin.val_rev]; simp only []; omega
    rw [hr]
    fin_cases a
    · show (8 * g.val + n.val / 256) / 8 ≤ g.val ∧ g.val < (8 * g.val + n.val / 256) / 8 + 1; omega
    · show 256 * ((8 * g.val + n.val / 256) % 8) ≤ n.val ∧ n.val < 256 * ((8 * g.val + n.val / 256) % 8) + 256; omega
    · show 0 ≤ d.val ∧ d.val < 0 + 64; omega
  · intro x hx
    have h0 : g.val = k.rev.val / 8 + (x 0).val := hx 0
    have h1 : n.val = 256 * (k.rev.val % 8) + (x 1).val := hx 1
    have h2 : d.val = 0 + (x 2).val := hx 2
    have l0 : (x 0).val < 1 := (x 0).isLt
    have l1 : (x 1).val < 256 := (x 1).isLt
    have hg : (⟨k.rev.val / 8, by omega⟩ : Fin 16) = g := Fin.ext (by show k.rev.val / 8 = g.val; omega)
    have hxe : x = ix3 0 ⟨(x 1).val, l1⟩ d := by
      funext a
      fin_cases a
      · exact Fin.ext (by show (x 0).val = 0; omega)
      · rfl
      · exact Fin.ext (by show (x 2).val = d.val; omega)
    rw [hg, hxe, cell_at _ _ _ _ _ hb hl, he, hum, hwm]
    have hn : 256 * (k.rev.val % 8) + (x 1).val = n.val := h1.symm
    simp only [hn]
    exact select_row _ _ _ _ _ _ _

/-- A load of a part of a whole buffer reads the contents at the shifted index. -/
theorem load_at {S : Shape} {e : EltTy} {arg : Memref sig .tc .vmem S e} (h : arg.IsWhole) (X : S.Idx → Elt Ideal e) (off size : Fin S.rank → ℕ) (inb)
    (x : (Rect.unit (s := S) off size inb).shape.Idx) (i : S.Idx) (hi : ∀ a, (i a : ℕ) = off a + x a) :
    View.readAt (Elt Ideal) arg.view (Rect.unit (s := S) off size inb).toLoadRect (h.unread X) x = X i := by
  rw [View.readAt_eq_ld, h.read_unread]
  exact View.ld_unit_apply_of X off size inb x i hi

/-- A mask's word, a widened bit, read as a number. -/
theorem flag_num (b : BitVec 1) : FloatOps.sitofp (F := Ideal) .f32 (BitVec.setWidth 32 (IntOp.cmpi .ne (BitVec.setWidth 32 b) 0#32)) = num b := by
  rw [widened]
  congr 1
  revert b
  decide

/-- The tiles over a point's buffers, read back at a slot. -/
theorem tiles_loads (arg1 : Memref sig .tc .vmem S256x128 .i32) (harg1 : arg1.IsWhole) (arg2 : Memref sig .tc .vmem S256x128 .i32) (harg2 : arg2.IsWhole) (arg3 : Memref sig .tc .vmem S256x128 .i32) (harg3 : arg3.IsWhole) (arg4 : Memref sig .tc .vmem S1x16x64 .f32) (harg4 : arg4.IsWhole) (arg5 : Memref sig .tc .vmem S1x16x64 .f32) (harg5 : arg5.IsWhole) (arg6 : Memref sig .tc .vmem S1x64 .f32) (harg6 : arg6.IsWhole) (arg7 : Memref sig .tc .vmem S1x16x1 .i32) (harg7 : arg7.IsWhole) (arg8 : Memref sig .tc .vmem S1x16x1 .f32) (harg8 : arg8.IsWhole) (arg9 : Memref sig .tc .vmem S2048x16 .bf16) (harg9 : arg9.IsWhole) (arg10 : Memref sig .tc .vmem S2048x128 .f32) (harg10 : arg10.IsWhole)
  (x0 x1 x2 : Vec Ideal S256x128 .i32) (x3 x4 : Vec Ideal S1x16x64 .f32) (x5 : Vec Ideal S1x64 .f32) (x6 : Vec Ideal S1x16x1 .i32) (x7 : Vec Ideal S1x16x1 .f32) (x8 : Vec Ideal S2048x16 .bf16) (x9 : Vec Ideal S2048x128 .f32)
    (er : Fin 64 → ℝ) (ub : Fin 256 → Fin 128 → BitVec 1) (wb : Fin 16 → BitVec 1)
    (h0 : ∀ i j, x0 (ix2 i j) = BitVec.setWidth 32 (ub i j)) (h5 : ∀ d, x5 (ix2 0 d) = (er d : EReal)) (h7 : ∀ g, x7 (ix3 0 g 0) = num (wb g))
    (h8 : ∀ n j, x8 (ix2 n j) = (if n.val / 128 = j.val then 1 else 0 : EReal)) (h9 : ∀ n k, x9 (ix2 n k) = (if n.val % 128 = k.val then 1 else 0 : EReal))
    (g : Fin 16) (n : Fin 2048) (d : Fin 64) :
    View.canon (tiles (k0_pay4 (View.readAt (Elt Ideal) arg6.view (Rect.unit (s := S1x64) ![0, 0] S1x64.size inb_S1x64_S1x64_0_0).toLoadRect (harg6.unread x5))) (k0_pay5 (View.readAt (Elt Ideal) arg1.view (Rect.unit (s := S256x128) ![0, 0] S256x128.size inb_S256x128_S256x128_0_0).toLoadRect (harg1.unread x0))) (View.readAt (Elt Ideal) arg9.view (Rect.unit (s := S2048x16) ![0, 0] S2048x16.size inb_S2048x16_S2048x16_0_0).toLoadRect (harg9.unread x8)) (View.readAt (Elt Ideal) arg10.view (Rect.unit (s := S2048x128) ![0, 0] S2048x128.size inb_S2048x128_S2048x128_0_0).toLoadRect (harg10.unread x9)) (k0_pay8 (View.readAt (Elt Ideal) arg8.view (Rect.unit (s := S1x16x1) ![0, 0, 0] S1x16x1.size inb_S1x16x1_S1x16x1_0_0_0).toLoadRect (harg8.unread x7)))
      (fun g => (View.readAt (Elt Ideal) arg7.view (Rect.unit (s := S1x16x1) ![0, g.val, 0] S1x1x1.size (idx_in g)).toLoadRect (harg7.unread x6)))
      (fun g => (View.readAt (Elt Ideal) arg4.view (Rect.unit (s := S1x16x64) ![0, g.val, 0] S1x1x64.size (val_in g)).toLoadRect (harg4.unread x3)))
      (fun g => (View.readAt (Elt Ideal) arg5.view (Rect.unit (s := S1x16x64) ![0, g.val, 0] S1x1x64.size (val_in g)).toLoadRect (harg5.unread x4)))) (ix3 g n d)
      = slotRow ((clip (x6 (ix3 0 g 0))).toNat = n.val ∧ wb g = 1#1) (ub ⟨16 * g.val + n.val / 128, by omega⟩ ⟨n.val % 128, by omega⟩)
          (er d : EReal) (x3 (ix3 0 g d)) (x4 (ix3 0 g d)) := by
  refine (tiles_value _ _ _ _ _ _ _ _ er ub wb (fun d => ?_) (fun i j => ?_) (fun g => ?_) (fun n j => ?_) (fun n k => ?_) g n d).trans ?_
  · pointwise [k0_pay4]
    refine (load_at _ _ _ _ _ _ (ix2 0 d) fun a => ?_).trans (h5 d)
    fin_cases a <;> exact (Nat.zero_add _).symm
  · pointwise [k0_pay5]
    rw [load_at harg1 x0 _ _ _ _ (ix2 i j) (fun a => by fin_cases a <;> exact (Nat.zero_add _).symm), h0]
    exact flag_num _
  · pointwise [k0_pay8]
    refine (load_at _ _ _ _ _ _ (ix3 0 g 0) fun a => ?_).trans (h7 g)
    fin_cases a <;> exact (Nat.zero_add _).symm
  · refine (load_at _ _ _ _ _ _ (ix2 n j) fun a => ?_).trans (h8 n j)
    fin_cases a <;> exact (Nat.zero_add _).symm
  · refine (load_at _ _ _ _ _ _ (ix2 n k) fun a => ?_).trans (h9 n k)
    fin_cases a <;> exact (Nat.zero_add _).symm
  · rw [load_at harg7 x6 _ _ _ _ (ix3 0 g 0) (fun a => by fin_cases a <;> first | rfl | exact (Nat.zero_add _).symm),
      load_at harg4 x3 _ _ _ _ (ix3 0 g d) (fun a => by fin_cases a <;> first | rfl | exact (Nat.zero_add _).symm),
      load_at harg5 x4 _ _ _ _ (ix3 0 g d) (fun a => by fin_cases a <;> first | rfl | exact (Nat.zero_add _).symm)]

end Cert.KernelIdeal.Slots

end
-- ==== Proof.Array.lean ====
/- The new memory as a whole array: every slot's row after the last grid point. -/
module

public import proofs.«01_k».proof.Proof.Blocks
public import proofs.«01_k».proof.Proof.Memory
import Idealize.ShloMosaic.Lib.Pointwise
import Idealize.ShloMosaic.Lib.Tactic
public import Idealize.ShloMosaic.Lib.Pipeline.ValueKit

@[expose] public section

set_option maxRecDepth 16384

noncomputable section

namespace Cert.KernelIdeal.Slots

open Cert.KernelIdeal Cert.KernelIdeal.Gen Cert.Slots Idealize.ShloMosaic Idealize.ShloMosaic.TcCoe

variable (m : (ℓ : Loc nD τ sig) → Buf (Elt Ideal) ℓ) (c : Dev nD)

/-- The empty row. -/
abbrev emptyRow (d : Fin 64) : EReal := (show FVec Ideal S64 .f32 from m ((c.tc : Thread nD τ).loc main_arg0)) (ix1 d)
/-- The update rows. -/
abbrev updateRow (b : Fin 256) (d : Fin 64) : EReal := (show FVec Ideal S256x64 .f32 from m ((c.tc : Thread nD τ).loc main_arg1)) (ix2 b d)
/-- The write rows. -/
abbrev writeRow (b : Fin 256) (d : Fin 64) : EReal := (show FVec Ideal S256x64 .f32 from m ((c.tc : Thread nD τ).loc main_arg2)) (ix2 b d)
/-- The retained slots' mask. -/
abbrev retained (b : Fin 256) (n : Fin 2048) : BitVec 1 := (show IVec S256x2048 1 from m ((c.tc : Thread nD τ).loc main_arg3)) (ix2 b n)
/-- The updated slots' mask. -/
abbrev updated (b : Fin 256) (n : Fin 2048) : BitVec 1 := (show IVec S256x2048 1 from m ((c.tc : Thread nD τ).loc main_arg4)) (ix2 b n)
/-- The forgotten slots' mask. -/
abbrev forgotten (b : Fin 256) (n : Fin 2048) : BitVec 1 := (show IVec S256x2048 1 from m ((c.tc : Thread nD τ).loc main_arg5)) (ix2 b n)
/-- The write flags. -/
abbrev flag (b : Fin 256) : BitVec 1 := (show IVec S256 1 from m ((c.tc : Thread nD τ).loc main_arg6)) (ix1 b)
/-- The slot a row names, before the clipping. -/
abbrev slotWord (b : Fin 256) : BitVec 32 := (show IVec S256 32 from m ((c.tc : Thread nD τ).loc main_arg7)) (ix1 b)

/-- Whether a row overwrites a slot. -/
abbrev Overwrites (b : Fin 256) (n : Fin 2048) : Prop := (clip (slotWord m c b)).toNat = n.val ∧ flag m c b = 1#1

/-- A slot's row after the step. -/
def newRow (b : Fin 256) (n : Fin 2048) (d : Fin 64) : EReal :=
  slotRow (Overwrites m c b n) (updated m c b n) (emptyRow m c d) (updateRow m c b d) (writeRow m c b d)

/-- The slot that a lane of the row `i` of a point's masks stands for. -/
def slotOf (i : Fin 256) (k : Fin 128) : Fin 2048 := ⟨128 * (i.val % 16) + k.val, by omega⟩

/-- The selected row written over a point's own numbering is the one over the arguments'. -/
theorem newRow_point (er : Fin 64 → ℝ) (he : ∀ d, emptyRow m c d = (er d : EReal)) (t : Fin cfg0.N) (g : Fin 16) (n : Fin 2048) (d : Fin 64)
    (x3 x4 : Vec Ideal S1x16x64 .f32) (x6 : Vec Ideal S1x16x1 .i32)
    (h3 : x3 (ix3 0 g d) = updateRow m c (row t g.val g.isLt) d) (h4 : x4 (ix3 0 g d) = writeRow m c (row t g.val g.isLt) d)
    (h6 : x6 (ix3 0 g 0) = slotWord m c (row t g.val g.isLt)) :
    slotRow ((clip (x6 (ix3 0 g 0))).toNat = n.val ∧ flag m c (row t g.val g.isLt) = 1#1)
        ((fun (i : Fin 256) (k : Fin 128) => updated m c (row t (i.val / 16) (by omega)) (slotOf i k)) ⟨16 * g.val + n.val / 128, by omega⟩ ⟨n.val % 128, by omega⟩)
        (er d : EReal) (x3 (ix3 0 g d)) (x4 (ix3 0 g d))
      = newRow m c (row t g.val g.isLt) n d := by
  have hr : row t ((16 * g.val + n.val / 128) / 16) (by omega) = row t g.val g.isLt := Fin.ext (by show 16 * t.val + (16 * g.val + n.val / 128) / 16 = 16 * t.val + g.val; omega)
  have hs : slotOf ⟨16 * g.val + n.val / 128, by omega⟩ ⟨n.val % 128, by omega⟩ = n := Fin.ext (by show 128 * ((16 * g.val + n.val / 128) % 16) + n.val % 128 = n.val; omega)
  unfold newRow
  simp only [hr, hs, h3, h4, h6, he]

/-- What a grid point leaves of the new memory. -/
theorem point_memory (er : Fin 64 → ℝ) (he : ∀ d, emptyRow m c d = (er d : EReal)) (t : Fin cfg0.N) (g : Fin 16) (n : Fin 2048) (d : Fin 64) :
    (show FVec Ideal S16x2048x64 .f32 from (outsAt0 m c t.val t.isLt).1) (ix3 g n d) = newRow m c (row t g.val g.isLt) n d := by
  by_cases h0 : t.val % 16 = 0
  · have h1 : ¬t.val % 16 = 15 := by omega
    rw [outsAt0_A m c t h0 h1]
    dsimp only
    unfold out0_A_10
    rw [View.read_writes_junk_eq_canon, tiles_A]
    exact (tiles_loads _ _ (ms0_1 t) (hs0_1 t) (ms0_2 t) (hs0_2 t) _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) er
      (fun i k => updated m c (row t (i.val / 16) (by omega)) (slotOf i k)) (fun g => flag m c (row t g.val g.isLt)) (block0 m c t) (fun d => (block5 m c t d).trans (he d)) (block7 m c t) (block8 m c t) (block9 m c t) g n d).trans
      (newRow_point m c er he t g n d _ _ _ (block3 m c t g d) (block4 m c t g d) (block6 m c t g))
  by_cases h1 : t.val % 16 = 15
  · rw [outsAt0_C m c t h0 h1]
    dsimp only
    unfold out0_C_10
    rw [View.read_writes_junk_eq_canon, tiles_C]
    exact (tiles_loads _ _ (ms0_1 t) (hs0_1 t) (ms0_2 t) (hs0_2 t) _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) er
      (fun i k => updated m c (row t (i.val / 16) (by omega)) (slotOf i k)) (fun g => flag m c (row t g.val g.isLt)) (block0 m c t) (fun d => (block5 m c t d).trans (he d)) (block7 m c t) (block8 m c t) (block9 m c t) g n d).trans
      (newRow_point m c er he t g n d _ _ _ (block3 m c t g d) (block4 m c t g d) (block6 m c t g))
  · rw [outsAt0_B m c t h0 h1]
    dsimp only
    unfold out0_B_10
    rw [View.read_writes_junk_eq_canon, tiles_B]
    exact (tiles_loads _ _ (ms0_1 t) (hs0_1 t) (ms0_2 t) (hs0_2 t) _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) er
      (fun i k => updated m c (row t (i.val / 16) (by omega)) (slotOf i k)) (fun g => flag m c (row t g.val g.isLt)) (block0 m c t) (fun d => (block5 m c t d).trans (he d)) (block7 m c t) (block8 m c t) (block9 m c t) g n d).trans
      (newRow_point m c er he t g n d _ _ _ (block3 m c t g d) (block4 m c t g d) (block6 m c t g))

/-- The new memory as an array. -/
theorem memory_array (er : Fin 64 → ℝ) (he : ∀ d, emptyRow m c d = (er d : EReal)) :
    (dats m 0 c).arrAt 10 cfg0.N = ((fun i => newRow m c (i 0) (i 1) (i 2)) : FVec Ideal S256x2048x64 .f32) := by
  have e : ∀ t : Fin cfg0.N, win0_10.index t = ![t.val, 0, 0] := (by decide +kernel : ∀ t : Fin grid0.N, _)
  refine (dats m 0 c).arrAt_eq_of_covers 10 _ (by decide +kernel) fun t hf y => ?_
  blk_simp
  rw [after0_10]
  obtain ⟨g, n, d, rfl⟩ : ∃ (g : Fin 16) (n : Fin 2048) (d : Fin 64), y = ix3 g n d := ⟨y 0, y 1, y 2, by funext a; fin_cases a <;> rfl⟩
  have ht : t.val < 16 := t.isLt
  have hi : ((win0_10.blk t).view.emb (ix3 g n d)) = (ix3 (row t g.val g.isLt) n d : S256x2048x64.Idx) := by unfold row; blk_ext [e]
  refine (point_memory m c er he t g n d).trans ?_
  exact (congrArg (fun i : S256x2048x64.Idx => newRow m c (i 0) (i 1) (i 2)) hi).symm

end Cert.KernelIdeal.Slots

end
-- ==== Proof.Totals.lean ====
/- The statistics' partial sums at a grid point: what each lane adds. -/
module

public import proofs.«01_k».proof.Proof.Cell
import Idealize.ShloMosaic.Lib.Pointwise
import Idealize.ShloMosaic.Lib.Tactic
import Idealize.ShloMosaic.Lib.Pipeline.ValueKit

@[expose] public section

set_option maxRecDepth 16384

noncomputable section

namespace Cert.KernelIdeal.Slots

open Cert.KernelIdeal Cert.KernelIdeal.Gen Cert.Slots Idealize.ShloMosaic Idealize.ShloMosaic.TcCoe

/-- The sixteen rows' marks at row `16 g + j` and lane `k`: row `g`'s mark. -/
theorem marks_at (wm : FVec Ideal S16x1 .f32) (ix : Fin 16 → Vec Ideal S1x1x1 .i32) (i : Fin 256) (k : Fin 128) :
    marks wm ix (ix2 i k) = if (clip (ix ⟨i.val / 16, by omega⟩ (ix3 0 0 0))).toNat = 128 * (i.val % 16) + k.val then wm (ix2 ⟨i.val / 16, by omega⟩ 0) else 0 := by
  refine (concatenate_ofFn_apply (s₁ := S16x128) (t := S256x128) 0 (fun g : Fin 16 => mark wm (ix g) g) _ rfl 16 rfl (ix2 i k) ⟨i.val / 16, by omega⟩ rfl
    (ix2 ⟨i.val % 16, by omega⟩ k) rfl fun b hb => ?_).trans (mark_at wm _ _ _ _)
  fin_cases b
  · exact absurd rfl hb
  · rfl

/-- The sum of a table of 256 rows of 128 lanes, as the kernel takes it. -/
def total (f : FVec Ideal S256x128 .f32) : Ideal .f32 :=
  extractAt ![0, 0, 0] (shapeCast S1x1x1 (multiReduction .add [1, 2] S1 (shapeCast S1x256x128 f shapeCasts_S256x128_S1x256x128) 0x00000000#32 reduces_S1x256x128_S1 (.inl rfl) rfl) shapeCasts_S1_S1x1x1) inpos_S1x1x1_p0_0_0

/-- The sum of a column of sixteen, as the kernel takes it. -/
def total16 (f : FVec Ideal S16x1 .f32) : Ideal .f32 :=
  extractAt ![0, 0, 0] (shapeCast S1x1x1 (multiReduction .add [1, 2] S1 (shapeCast S1x16x1 f shapeCasts_S16x1_S1x16x1) 0x00000000#32 reduces_S1x16x1_S1 (.inl rfl) rfl) shapeCasts_S1_S1x1x1) inpos_S1x1x1_p0_0_0

/-- It is the sum over the rows and the lanes. -/
theorem total_eq (f : FVec Ideal S256x128 .f32) : total f = ∑ i : Fin 256, ∑ k : Fin 128, f (ix2 i k) := by
  pointwise [total]

/-- It is the sum over the sixteen. -/
theorem total16_eq (f : FVec Ideal S16x1 .f32) : total16 f = ∑ i : Fin 16, f (ix2 i 0) := by
  pointwise [total16]
  simp

/-- The four sums added to the statistics, each in its own lane. -/
def lanes (a w u f : Ideal .f32) (prev : FVec Ideal S1x128 .f32) : FVec Ideal S1x128 .f32 :=
  k0_pay2
    (addf (addf (select (cmpi .eq (iota .tc S1x128 32 [1] iota_S1x128_d1_w32) (broadcast S1x128 0#32)) (broadcast S1x128 a) (broadcast S1x128 (Scalar.ofBits .f32 0x00000000#32)))
      (select (cmpi .eq (iota .tc S1x128 32 [1] iota_S1x128_d1_w32) (broadcast S1x128 2#32)) (broadcast S1x128 w) (broadcast S1x128 (Scalar.ofBits .f32 0x00000000#32))))
      (select (cmpi .eq (iota .tc S1x128 32 [1] iota_S1x128_d1_w32) (broadcast S1x128 3#32)) (broadcast S1x128 u) (broadcast S1x128 (Scalar.ofBits .f32 0x00000000#32))))
    k0_pay318 (broadcast S1x128 f) k0_pay320 prev

/-- The statistics are the four sums added, each in its lane. -/
theorem stats_eq (um rm fm : FVec Ideal S256x128 .f32) (wm : FVec Ideal S16x1 .f32) (ix : Fin 16 → Vec Ideal S1x1x1 .i32) (prev : FVec Ideal S1x128 .f32) :
    stats um rm fm wm ix prev = lanes (Scalar.addf (total (maximumf um rm)) (total (mulf (marks wm ix) (subf (broadcast S256x128 (Scalar.ofBits .f32 0x3F800000#32)) (maximumf um rm)))))
      (total16 wm) (total um) (total fm) prev := by sl_kernel_rfl

/-- What a lane adds, of the four sums: none in the lanes that hold no statistic. -/
def laneSum (a w u f : EReal) (k : ℕ) : EReal := if k = 0 then a else if k = 2 then w else if k = 3 then u else if k = 4 then f else 0

/-- A choice by the comparison of a lane with a number. -/
theorem lane_pick (k : Fin 128) (n : ℕ) (hn : n < 128) (a : EReal) : Scalar.select (IntOp.cmpi .eq (BitVec.ofNat 32 k.val) (BitVec.ofNat 32 n)) a (0 : EReal) = if k.val = n then a else 0 := by
  have h : BitVec.ofNat 32 k.val = BitVec.ofNat 32 n ↔ k.val = n := by
    rw [← BitVec.toNat_inj]
    simp only [BitVec.toNat_ofNat]
    omega
  by_cases hk : k.val = n
  · rw [if_pos hk, hk, show IntOp.cmpi .eq (BitVec.ofNat 32 n) (BitVec.ofNat 32 n) = 1#1 by simp [IntOp.cmpi]]; rfl
  · rw [if_neg hk, show IntOp.cmpi .eq (BitVec.ofNat 32 k.val) (BitVec.ofNat 32 n) = 0#1 from congrArg BitVec.ofBool (beq_eq_false_iff_ne.mpr (mt h.mp hk))]; rfl

/-- Four choices, of which at most one is made. -/
theorem four_picks (k : ℕ) (a w u f : EReal) :
    (if k = 0 then a else 0) + (if k = 2 then w else 0) + (if k = 3 then u else 0) + (if k = 4 then f else 0) = laneSum a w u f k := by
  unfold laneSum
  by_cases h0 : k = 0
  · subst h0; simp
  by_cases h2 : k = 2
  · subst h2; simp
  by_cases h3 : k = 3
  · subst h3; simp
  by_cases h4 : k = 4
  · subst h4; simp
  simp only [h0, h2, h3, h4, if_false, add_zero]

/-- Each lane after the addition. -/
theorem lanes_at (a w u f : EReal) (prev : FVec Ideal S1x128 .f32) (k : Fin 128) : lanes a w u f prev (ix2 0 k) = prev (ix2 0 k) + laneSum a w u f k.val := by
  pointwise [lanes, k0_pay2, k0_pay318, k0_pay320]
  rw [lane_pick k 0 (by decide), lane_pick k 2 (by decide), lane_pick k 3 (by decide), lane_pick k 4 (by decide), four_picks]

/-- Each lane after the scaling. -/
theorem scale_at (v : FVec Ideal S1x128 .f32) (k : Fin 128) : k0_pay3 (iota .tc S1x128 32 [1] iota_S1x128_d1_w32) v (ix2 0 k) =
      v (ix2 0 k) * laneSum ((1 / ((524288 : ℕ) : ℝ) : ℝ) : EReal) ((1 / ((256 : ℕ) : ℝ) : ℝ) : EReal) ((1 / ((524288 : ℕ) : ℝ) : ℝ) : EReal) ((1 / ((524288 : ℕ) : ℝ) : ℝ) : EReal) k.val := by
  pointwise [k0_pay3]
  rw [lane_pick k 0 (by decide), lane_pick k 2 (by decide), lane_pick k 3 (by decide), lane_pick k 4 (by decide), four_picks, ofBits_per_slot, ofBits_per_row]

/-- A slot's contribution to the number of slots alive: what was updated or retained, and the row's flag where neither was. -/
theorem alive_step (t n : ℕ) (bu br bw : BitVec 1) :
    max (num bu) (num br) + (if t = n then num bw else 0) * (1 - max (num bu) (num br)) = num (alive (t = n ∧ bw = 1#1) bu br) := by
  have hs : (1 : EReal) - 1 = 0 := EReal.sub_self (EReal.coe_ne_top 1) (EReal.coe_ne_bot 1)
  have h01 : max (0 : EReal) 1 = 1 := max_eq_right zero_le_one
  have h10 : max (1 : EReal) 0 = 1 := max_eq_left zero_le_one
  unfold alive
  rcases bit_cases bu with rfl | rfl <;> rcases bit_cases br with rfl | rfl <;> rcases bit_cases bw with rfl | rfl <;> by_cases h : t = n <;>
    simp [h, hs, h01, h10]

/-- The number of slots alive among a point's, from its masks, indices and flags. -/
theorem total_alive (um rm : FVec Ideal S256x128 .f32) (wm : FVec Ideal S16x1 .f32) (ix : Fin 16 → Vec Ideal S1x1x1 .i32)
    (ub rb : Fin 256 → Fin 128 → BitVec 1) (wb : Fin 16 → BitVec 1)
    (hum : ∀ i j, um (ix2 i j) = num (ub i j)) (hrm : ∀ i j, rm (ix2 i j) = num (rb i j)) (hwm : ∀ g, wm (ix2 g 0) = num (wb g)) :
    Scalar.addf (total (maximumf um rm)) (total (mulf (marks wm ix) (subf (broadcast S256x128 (Scalar.ofBits .f32 0x3F800000#32)) (maximumf um rm))))
      = ((count fun i k => alive ((clip (ix ⟨i.val / 16, by omega⟩ (ix3 0 0 0))).toNat = 128 * (i.val % 16) + k.val ∧ wb ⟨i.val / 16, by omega⟩ = 1#1) (ub i k) (rb i k) : ℝ) : EReal) := by
  rw [total_eq, total_eq, ← sum_num]
  show (∑ i : Fin 256, ∑ k : Fin 128, _ : EReal) + (∑ i : Fin 256, ∑ k : Fin 128, _) = _
  rw [← Finset.sum_add_distrib]
  refine Finset.sum_congr rfl fun i _ => ?_
  rw [← Finset.sum_add_distrib]
  refine Finset.sum_congr rfl fun k _ => ?_
  rw [← alive_step]
  have hm : maximumf um rm (ix2 i k) = max (num (ub i k)) (num (rb i k)) := by
    rw [← hum, ← hrm]; rfl
  have h1 : Scalar.ofBits (F := Ideal) .f32 0x3F800000#32 = (1 : EReal) := Ideal.ofBits_one_f32
  show maximumf um rm (ix2 i k) + marks wm ix (ix2 i k) * (Scalar.ofBits (F := Ideal) .f32 0x3F800000#32 - maximumf um rm (ix2 i k)) = _
  rw [hm, h1, marks_at, hwm]

end Cert.KernelIdeal.Slots

end
-- ==== Proof.Stats.lean ====
/- The statistics after each grid point: whole numbers, lane by lane, and their shares after the last point. -/
module

public import proofs.«01_k».proof.Proof.Array
public import proofs.«01_k».proof.Proof.Totals
import Idealize.ShloMosaic.Lib.Pointwise
import Idealize.ShloMosaic.Lib.Tactic
public import Idealize.ShloMosaic.Lib.Pipeline.ValueKit

@[expose] public section

set_option maxRecDepth 16384

noncomputable section

namespace Cert.KernelIdeal.Slots

open Cert.KernelIdeal Cert.KernelIdeal.Gen Cert.Slots Idealize.ShloMosaic Idealize.ShloMosaic.TcCoe

/-- A lane's whole number, of the four: nought in the lanes that hold no statistic. -/
def laneNat (a w u f k : ℕ) : ℕ := if k = 0 then a else if k = 2 then w else if k = 3 then u else if k = 4 then f else 0

/-- What a lane adds, of four whole numbers, is its whole number. -/
theorem laneSum_coe (a w u f k : ℕ) : laneSum ((a : ℝ) : EReal) ((w : ℝ) : EReal) ((u : ℝ) : EReal) ((f : ℝ) : EReal) k = ((laneNat a w u f k : ℝ) : EReal) := by
  unfold laneSum laneNat
  split
  · rfl
  split
  · rfl
  split
  · rfl
  split
  · rfl
  · simp

/-- The statistics over tables of bits: what was there before, and the four whole numbers. -/
theorem stats_value (um rm fm : FVec Ideal S256x128 .f32) (wm : FVec Ideal S16x1 .f32) (ix : Fin 16 → Vec Ideal S1x1x1 .i32)
    (ub rb fb : Fin 256 → Fin 128 → BitVec 1) (wb : Fin 16 → BitVec 1) (w : Fin 16 → BitVec 32)
    (hum : ∀ i j, um (ix2 i j) = num (ub i j)) (hrm : ∀ i j, rm (ix2 i j) = num (rb i j)) (hfm : ∀ i j, fm (ix2 i j) = num (fb i j))
    (hwm : ∀ g, wm (ix2 g 0) = num (wb g)) (hix : ∀ g, ix g (ix3 0 0 0) = w g) (prev : FVec Ideal S1x128 .f32) (k : Fin 128) :
    stats um rm fm wm ix prev (ix2 0 k)
      = prev (ix2 0 k) + ((laneNat (count fun i j => alive ((clip (w ⟨i.val / 16, by omega⟩)).toNat = 128 * (i.val % 16) + j.val ∧ wb ⟨i.val / 16, by omega⟩ = 1#1) (ub i j) (rb i j))
          (∑ g, (wb g).toNat) (count ub) (count fb) k.val : ℝ) : EReal) := by
  rw [stats_eq, lanes_at, total_alive _ _ _ _ ub rb wb hum hrm hwm, total_eq, total_eq, total16_eq]
  simp only [hum, hfm, hwm, hix]
  rw [sum_num, sum_num, sum_num1, laneSum_coe]

/-- The statistics over a point's buffers: what was there before, and the point's four whole numbers. -/
theorem stats_loads (arg1 : Memref sig .tc .vmem S256x128 .i32) (harg1 : arg1.IsWhole) (arg2 : Memref sig .tc .vmem S256x128 .i32) (harg2 : arg2.IsWhole) (arg3 : Memref sig .tc .vmem S256x128 .i32) (harg3 : arg3.IsWhole) (arg4 : Memref sig .tc .vmem S1x16x64 .f32) (harg4 : arg4.IsWhole) (arg5 : Memref sig .tc .vmem S1x16x64 .f32) (harg5 : arg5.IsWhole) (arg6 : Memref sig .tc .vmem S1x64 .f32) (harg6 : arg6.IsWhole) (arg7 : Memref sig .tc .vmem S1x16x1 .i32) (harg7 : arg7.IsWhole) (arg8 : Memref sig .tc .vmem S1x16x1 .f32) (harg8 : arg8.IsWhole) (arg9 : Memref sig .tc .vmem S2048x16 .bf16) (harg9 : arg9.IsWhole) (arg10 : Memref sig .tc .vmem S2048x128 .f32) (harg10 : arg10.IsWhole)
    (x0 x1 x2 : Vec Ideal S256x128 .i32) (x6 : Vec Ideal S1x16x1 .i32) (x7 : Vec Ideal S1x16x1 .f32)
    (ub rb fb : Fin 256 → Fin 128 → BitVec 1) (wb : Fin 16 → BitVec 1) (w : Fin 16 → BitVec 32)
    (h0 : ∀ i j, x0 (ix2 i j) = BitVec.setWidth 32 (ub i j)) (h1 : ∀ i j, x1 (ix2 i j) = BitVec.setWidth 32 (rb i j)) (h2 : ∀ i j, x2 (ix2 i j) = BitVec.setWidth 32 (fb i j))
    (h6 : ∀ g, x6 (ix3 0 g 0) = w g) (h7 : ∀ g, x7 (ix3 0 g 0) = num (wb g)) (prev : FVec Ideal S1x128 .f32) (k : Fin 128) :
    stats (k0_pay5 (View.readAt (Elt Ideal) arg1.view (Rect.unit (s := S256x128) ![0, 0] S256x128.size inb_S256x128_S256x128_0_0).toLoadRect (harg1.unread x0))) (k0_pay6 (View.readAt (Elt Ideal) arg2.view (Rect.unit (s := S256x128) ![0, 0] S256x128.size inb_S256x128_S256x128_0_0).toLoadRect (harg2.unread x1))) (k0_pay7 (View.readAt (Elt Ideal) arg3.view (Rect.unit (s := S256x128) ![0, 0] S256x128.size inb_S256x128_S256x128_0_0).toLoadRect (harg3.unread x2))) (k0_pay8 (View.readAt (Elt Ideal) arg8.view (Rect.unit (s := S1x16x1) ![0, 0, 0] S1x16x1.size inb_S1x16x1_S1x16x1_0_0_0).toLoadRect (harg8.unread x7))) (fun g => (View.readAt (Elt Ideal) arg7.view (Rect.unit (s := S1x16x1) ![0, g.val, 0] S1x1x1.size (idx_in g)).toLoadRect (harg7.unread x6))) prev (ix2 0 k)
      = prev (ix2 0 k) + ((laneNat (count fun i j => alive ((clip (w ⟨i.val / 16, by omega⟩)).toNat = 128 * (i.val % 16) + j.val ∧ wb ⟨i.val / 16, by omega⟩ = 1#1) (ub i j) (rb i j))
          (∑ g, (wb g).toNat) (count ub) (count fb) k.val : ℝ) : EReal) := by
  have e5 : ∀ i j, k0_pay5 (F := Ideal) (View.readAt (Elt Ideal) arg1.view (Rect.unit (s := S256x128) ![0, 0] S256x128.size inb_S256x128_S256x128_0_0).toLoadRect (harg1.unread x0)) (ix2 i j) = num (ub i j) := fun i j => by
    pointwise [k0_pay5]
    rw [load_at harg1 x0 _ _ _ _ (ix2 i j) (fun a => by fin_cases a <;> exact (Nat.zero_add _).symm), h0]
    exact flag_num _
  have e6 : ∀ i j, k0_pay6 (F := Ideal) (View.readAt (Elt Ideal) arg2.view (Rect.unit (s := S256x128) ![0, 0] S256x128.size inb_S256x128_S256x128_0_0).toLoadRect (harg2.unread x1)) (ix2 i j) = num (rb i j) := fun i j => by
    pointwise [k0_pay6]
    rw [load_at harg2 x1 _ _ _ _ (ix2 i j) (fun a => by fin_cases a <;> exact (Nat.zero_add _).symm), h1]
    exact flag_num _
  have e7 : ∀ i j, k0_pay7 (F := Ideal) (View.readAt (Elt Ideal) arg3.view (Rect.unit (s := S256x128) ![0, 0] S256x128.size inb_S256x128_S256x128_0_0).toLoadRect (harg3.unread x2)) (ix2 i j) = num (fb i j) := fun i j => by
    pointwise [k0_pay7]
    rw [load_at harg3 x2 _ _ _ _ (ix2 i j) (fun a => by fin_cases a <;> exact (Nat.zero_add _).symm), h2]
    exact flag_num _
  have e8 : ∀ g, k0_pay8 (F := Ideal) (View.readAt (Elt Ideal) arg8.view (Rect.unit (s := S1x16x1) ![0, 0, 0] S1x16x1.size inb_S1x16x1_S1x16x1_0_0_0).toLoadRect (harg8.unread x7)) (ix2 g 0) = num (wb g) := fun g => by
    pointwise [k0_pay8]
    refine (load_at _ _ _ _ _ _ (ix3 0 g 0) fun a => ?_).trans (h7 g)
    fin_cases a <;> exact (Nat.zero_add _).symm
  have e9 : ∀ g : Fin 16, View.readAt (Elt Ideal) arg7.view (Rect.unit (s := S1x16x1) ![0, g.val, 0] S1x1x1.size (idx_in g)).toLoadRect (harg7.unread x6) (ix3 0 0 0) = w g := fun g =>
    (load_at harg7 x6 _ _ _ _ (ix3 0 g 0) (fun a => by fin_cases a <;> first | rfl | exact (Nat.zero_add _).symm)).trans (h6 g)
  exact stats_value _ _ _ _ _ ub rb fb wb w e5 e6 e7 e8 e9 prev k

variable (m : (ℓ : Loc nD τ sig) → Buf (Elt Ideal) ℓ) (c : Dev nD)

/-- Whether a slot is alive after the step. -/
def aliveAt (b : Fin 256) (n : Fin 2048) : BitVec 1 := alive (Overwrites m c b n) (updated m c b n) (retained m c b n)

/-- The part of a table of bits that a grid point has. -/
def part (f : Fin 256 → Fin 2048 → BitVec 1) (t : Fin cfg0.N) : ℕ := count fun (i : Fin 256) (j : Fin 128) => f (row t (i.val / 16) (by omega)) (slotOf i j)

/-- A point's whole number in a lane. -/
def pointNat (t : Fin cfg0.N) (k : ℕ) : ℕ :=
  laneNat (part (aliveAt m c) t) (∑ g : Fin 16, (flag m c (row t g.val g.isLt)).toNat) (part (updated m c) t) (part (forgotten m c) t) k

/-- The same for any number of a point. -/
def pointNat' (j k : ℕ) : ℕ := if h : j < 16 then pointNat m c ⟨j, h⟩ k else 0

/-- The first point leaves its own whole numbers. -/
theorem point_first (t : Fin cfg0.N) (h0 : t.val % 16 = 0) (h1 : ¬t.val % 16 = 15) (k : Fin 128) :
    (show FVec Ideal S1x128 .f32 from (outsAt0 m c t.val t.isLt).2) (ix2 0 k) = ((pointNat m c t k.val : ℝ) : EReal) := by
  rw [outsAt0_A m c t h0 h1]
  dsimp only
  unfold out0_A_11
  rw [View.read_writes_junk_eq_canon, stats_A, View.canon_cons_unit_lit _ _ _ (by decide)]
  refine (stats_loads _ _ _ _ _ _ (ms0_3 t) (hs0_3 t) (ms0_4 t) (hs0_4 t) (ms0_5 t) (hs0_5 t) _ _ _ _ (ms0_8 t) (hs0_8 t) (ms0_9 t) (hs0_9 t) (iblk m c 0 t) (iblk m c 1 t) (iblk m c 2 t) (iblk m c 6 t) (iblk m c 7 t)
    (fun i k => updated m c (row t (i.val / 16) (by omega)) (slotOf i k)) (fun i k => retained m c (row t (i.val / 16) (by omega)) (slotOf i k)) (fun i k => forgotten m c (row t (i.val / 16) (by omega)) (slotOf i k))
    (fun g => flag m c (row t g.val g.isLt)) (fun g => slotWord m c (row t g.val g.isLt)) (block0 m c t) (block1 m c t) (block2 m c t) (block6 m c t) (block7 m c t) _ k).trans ?_
  rw [View.readCov_cons_toLoadRect]
  refine (congrArg (· + _) (?_ : (k0_pay1 (F := Ideal)) (ix2 0 k) = 0)).trans (zero_add _)
  pointwise [k0_pay1]

/-- A middle point adds its whole numbers. -/
theorem point_middle (t : Fin cfg0.N) (h0 : ¬t.val % 16 = 0) (h1 : ¬t.val % 16 = 15) (k : Fin 128) :
    (show FVec Ideal S1x128 .f32 from (outsAt0 m c t.val t.isLt).2) (ix2 0 k)
      = (show FVec Ideal S1x128 .f32 from (outsAt0 m c (t.val - 1) (Nat.lt_of_le_of_lt (Nat.sub_le _ _) t.isLt)).2) (ix2 0 k) + ((pointNat m c t k.val : ℝ) : EReal) := by
  rw [outsAt0_B m c t h0 h1]
  dsimp only
  unfold out0_B_11
  rw [View.read_writes_junk_eq_canon, stats_B, View.canon_cons_unit_lit _ _ _ (by decide)]
  refine (stats_loads _ _ _ _ _ _ (ms0_3 t) (hs0_3 t) (ms0_4 t) (hs0_4 t) (ms0_5 t) (hs0_5 t) _ _ _ _ (ms0_8 t) (hs0_8 t) (ms0_9 t) (hs0_9 t) (iblk m c 0 t) (iblk m c 1 t) (iblk m c 2 t) (iblk m c 6 t) (iblk m c 7 t)
    (fun i k => updated m c (row t (i.val / 16) (by omega)) (slotOf i k)) (fun i k => retained m c (row t (i.val / 16) (by omega)) (slotOf i k)) (fun i k => forgotten m c (row t (i.val / 16) (by omega)) (slotOf i k))
    (fun g => flag m c (row t g.val g.isLt)) (fun g => slotWord m c (row t g.val g.isLt)) (block0 m c t) (block1 m c t) (block2 m c t) (block6 m c t) (block7 m c t) _ k).trans ?_
  exact congrArg (· + _) (load_at _ _ _ _ _ _ (ix2 0 k) (fun a => by fin_cases a <;> exact (Nat.zero_add _).symm))

/-- The last point adds its whole numbers and scales. -/
theorem point_last (t : Fin cfg0.N) (h0 : ¬t.val % 16 = 0) (h1 : t.val % 16 = 15) (k : Fin 128) :
    (show FVec Ideal S1x128 .f32 from (outsAt0 m c t.val t.isLt).2) (ix2 0 k)
      = ((show FVec Ideal S1x128 .f32 from (outsAt0 m c (t.val - 1) (Nat.lt_of_le_of_lt (Nat.sub_le _ _) t.isLt)).2) (ix2 0 k) + ((pointNat m c t k.val : ℝ) : EReal))
        * laneSum ((1 / ((524288 : ℕ) : ℝ) : ℝ) : EReal) ((1 / ((256 : ℕ) : ℝ) : ℝ) : EReal) ((1 / ((524288 : ℕ) : ℝ) : ℝ) : EReal) ((1 / ((524288 : ℕ) : ℝ) : ℝ) : EReal) k.val := by
  rw [outsAt0_C m c t h0 h1]
  dsimp only
  unfold out0_C_11
  rw [View.read_writes_junk_eq_canon, stats_C, View.canon_cons_unit_lit _ _ _ (by decide), View.readCov_cons_toLoadRect, scale_at]
  refine congrArg (· * _) ((stats_loads _ _ _ _ _ _ (ms0_3 t) (hs0_3 t) (ms0_4 t) (hs0_4 t) (ms0_5 t) (hs0_5 t) _ _ _ _ (ms0_8 t) (hs0_8 t) (ms0_9 t) (hs0_9 t) (iblk m c 0 t) (iblk m c 1 t) (iblk m c 2 t) (iblk m c 6 t) (iblk m c 7 t)
    (fun i k => updated m c (row t (i.val / 16) (by omega)) (slotOf i k)) (fun i k => retained m c (row t (i.val / 16) (by omega)) (slotOf i k)) (fun i k => forgotten m c (row t (i.val / 16) (by omega)) (slotOf i k))
    (fun g => flag m c (row t g.val g.isLt)) (fun g => slotWord m c (row t g.val g.isLt)) (block0 m c t) (block1 m c t) (block2 m c t) (block6 m c t) (block7 m c t) _ k).trans ?_)
  exact congrArg (· + _) (load_at _ _ _ _ _ _ (ix2 0 k) (fun a => by fin_cases a <;> exact (Nat.zero_add _).symm))

/-- The points before the last leave the sum of their whole numbers. -/
theorem stats_upto (k : Fin 128) : ∀ (n : ℕ) (hn : n < 15),
    (show FVec Ideal S1x128 .f32 from (outsAt0 m c n (Nat.lt_of_lt_of_le hn (by decide : 15 ≤ grid0.N))).2) (ix2 0 k) = (((∑ j ∈ Finset.range (n + 1), pointNat' m c j k.val : ℕ) : ℝ) : EReal)
  | 0, _ => by
    refine (point_first m c ⟨0, by decide⟩ (by decide) (by decide) k).trans ?_
    rw [Finset.sum_range_one, pointNat', dif_pos (by decide)]
  | n + 1, hn => by
    refine (point_middle m c ⟨n + 1, Nat.lt_of_lt_of_le hn (by decide : 15 ≤ grid0.N)⟩ (by show ¬(n + 1) % 16 = 0; omega) (by show ¬(n + 1) % 16 = 15; omega) k).trans ?_
    refine (congrArg (· + _) (stats_upto k n (by omega))).trans ?_
    have e : pointNat' m c (n + 1) k.val = pointNat m c ⟨n + 1, Nat.lt_of_lt_of_le hn (by decide : 15 ≤ grid0.N)⟩ k.val := dif_pos (by omega)
    rw [Finset.sum_range_succ _ (n + 1), Nat.cast_add, EReal.coe_add, e]

/-- The statistics after the last point. -/
theorem stats_final (k : Fin 128) : (show FVec Ideal S1x128 .f32 from (outsAt0 m c t0_15.val t0_15.isLt).2) (ix2 0 k)
    = (((∑ j : Fin 16, pointNat m c j k.val : ℕ) : ℝ) : EReal)
        * laneSum ((1 / ((524288 : ℕ) : ℝ) : ℝ) : EReal) ((1 / ((256 : ℕ) : ℝ) : ℝ) : EReal) ((1 / ((524288 : ℕ) : ℝ) : ℝ) : EReal) ((1 / ((524288 : ℕ) : ℝ) : ℝ) : EReal) k.val := by
  have h : ∑ j : Fin 16, pointNat m c j k.val = ∑ j ∈ Finset.range (14 + 1), pointNat' m c j k.val + pointNat m c t0_15 k.val := by
    have e : pointNat' m c 15 k.val = pointNat m c t0_15 k.val := dif_pos (by decide)
    rw [← e, ← Finset.sum_range_succ, Finset.sum_range]
    refine Finset.sum_congr rfl fun j _ => ?_
    have e : pointNat' m c j.val k.val = pointNat m c j k.val := dif_pos j.isLt
    exact e.symm
  refine (point_last m c t0_15 (by decide) (by decide) k).trans (congrArg (· * _) ?_)
  rw [h, Nat.cast_add, EReal.coe_add]
  exact congrArg (· + _) (stats_upto m c k 14 (by decide))

/-- The points' parts of a table of bits make the whole of it. -/
theorem part_sum (f : Fin 256 → Fin 2048 → BitVec 1) : ∑ t : Fin 16, part f t = count f := by
  unfold part Cert.Slots.count
  simp only [← Fintype.sum_prod_type']
  refine Finset.sum_nbij' (fun x => (row x.1 (x.2.1.val / 16) (by omega), slotOf x.2.1 x.2.2))
    (fun y => (⟨y.1.val / 16, by omega⟩, ⟨16 * (y.1.val % 16) + y.2.val / 128, by omega⟩, ⟨y.2.val % 128, by omega⟩)) ?_ ?_ ?_ ?_ ?_
  · exact fun _ _ => Finset.mem_univ _
  · exact fun _ _ => Finset.mem_univ _
  · rintro ⟨t, i, j⟩ _
    refine Prod.ext (Fin.ext ?_) (Prod.ext (Fin.ext ?_) (Fin.ext ?_)) <;> simp only [row, slotOf] <;> omega
  · rintro ⟨b, n⟩ _
    refine Prod.ext (Fin.ext ?_) (Fin.ext ?_) <;> simp only [row, slotOf] <;> omega
  · exact fun _ _ => rfl

/-- The points' rows make all the rows. -/
theorem row_sum (f : Fin 256 → ℕ) : ∑ t : Fin 16, ∑ g : Fin 16, f (row t g.val g.isLt) = ∑ b, f b := by
  simp only [← Fintype.sum_prod_type']
  refine Finset.sum_nbij' (fun x => row x.1 x.2.val x.2.isLt) (fun b => (⟨b.val / 16, by omega⟩, ⟨b.val % 16, by omega⟩)) ?_ ?_ ?_ ?_ ?_
  · exact fun _ _ => Finset.mem_univ _
  · exact fun _ _ => Finset.mem_univ _
  · rintro ⟨t, g⟩ _
    refine Prod.ext (Fin.ext ?_) (Fin.ext ?_) <;> simp only [row] <;> omega
  · intro b _
    exact Fin.ext (by simp only [row]; omega)
  · exact fun _ _ => rfl

/-- The share of the slots alive. -/
theorem final_alive : (show FVec Ideal S1x128 .f32 from (outsAt0 m c t0_15.val t0_15.isLt).2) (ix2 0 0) = share (count (aliveAt m c)) 524288 := by
  rw [stats_final, ← part_sum]
  rfl

/-- Nothing is in the second lane. -/
theorem final_age : (show FVec Ideal S1x128 .f32 from (outsAt0 m c t0_15.val t0_15.isLt).2) (ix2 0 1) = 0 := by
  rw [stats_final]
  exact mul_zero _

/-- The share of the rows written. -/
theorem final_writes : (show FVec Ideal S1x128 .f32 from (outsAt0 m c t0_15.val t0_15.isLt).2) (ix2 0 2) = share (∑ b, (flag m c b).toNat) 256 := by
  rw [stats_final, ← row_sum]
  rfl

/-- The share of the slots updated. -/
theorem final_updates : (show FVec Ideal S1x128 .f32 from (outsAt0 m c t0_15.val t0_15.isLt).2) (ix2 0 3) = share (count (updated m c)) 524288 := by
  rw [stats_final, ← part_sum]
  rfl

/-- The share of the slots forgotten. -/
theorem final_forgets : (show FVec Ideal S1x128 .f32 from (outsAt0 m c t0_15.val t0_15.isLt).2) (ix2 0 4) = share (count (forgotten m c)) 524288 := by
  rw [stats_final, ← part_sum]
  rfl

/-- The statistics as an array. -/
theorem stats_array : (dats m 0 c).arrAt 11 cfg0.N = (outsAt0 m c t0_15.val t0_15.isLt).2 := by
  refine (dats m 0 c).arrAt_eq_of_after_last 11 t0_15 (by decide +kernel) _ fun j => ?_
  blk_simp
  rw [after0_11]

end Cert.KernelIdeal.Slots

end
-- ==== Proof.Ref.lean ====
/- The reference's results, read element by element. -/
module

public import proofs.«01_k».proof.Proof.Gen.ReferenceIdeal.Run
public import proofs.«01_k».proof.Proof.Spec
public import Idealize.ShloMosaic.Lib.Routing.OpsSet
public import Idealize.ShloMosaic.Lib.Pointwise

@[expose] public section

set_option maxRecDepth 16384

noncomputable section

namespace Cert.ReferenceIdeal.Slots

open Cert.ReferenceIdeal Cert.ReferenceIdeal.Gen Cert.ReferenceIdeal.Value Cert.Slots
open Idealize.ShloMosaic Idealize.ShloMosaic.TcCoe Idealize.SL.Sem Idealize.ShloMosaic.StableHlo Idealize.ShloMosaic.Routing

variable (V0 : Valuation τ sig (Elt Ideal))

/-- A bit that is not set is clear. -/
theorem bit_of_ne (M : BitVec 1) (h : ¬ M = 1#1) : M = 0#1 := by revert M; decide

/-- The slot row `b` overwrites. -/
def tgt (b : Fin 256) : BitVec 32 := clip (V0 (Proc.devRef .tc main_arg7) (ix1 b))

/-- The table of index pairs every gather and scatter of the reference reads: the batch row beside its clipped slot. -/
def pairs : IVec S256x2 32 :=
  concatenate S256x2 1 [⟨S256x1, (broadcastInDim S256x1 ![0] bcast_S256_S256x1_0 (select (cmpi .slt (res_main_v36 V0) (broadcastInDim S256 ![] bcast_S_S256 (constantI S_ 32 0#32))) (addi (res_main_v36 V0) (broadcastInDim S256 ![] bcast_S_S256 (constantI S_ 32 256#32))) (res_main_v36 V0)))⟩, ⟨S256x1, (broadcastInDim S256x1 ![0] bcast_S256_S256x1_0 (select (cmpi .slt (res_main_v37 V0) (broadcastInDim S256 ![] bcast_S_S256 (constantI S_ 32 0#32))) (addi (res_main_v37 V0) (broadcastInDim S256 ![] bcast_S_S256 (constantI S_ 32 2048#32))) (res_main_v37 V0)))⟩] concatenates_S256x1_S256x1_S256x2_d1

/-- The first word of pair `b` is `b`. -/
theorem pairs_0 (b : Fin 256) : pairs V0 (ix2 b 0) = BitVec.ofNat 32 b.val := by
  unfold pairs res_main_v36
  pointwise
  exact wrap_of_lt _ _ (by have := b.isLt; simp only [BitVec.toNat_ofNat]; omega)

/-- The second word of pair `b` is the slot row `b` overwrites. -/
theorem pairs_1 (b : Fin 256) : pairs V0 (ix2 b 1) = tgt V0 b := by
  unfold pairs res_main_v37
  pointwise
  refine (wrap_of_lt _ _ ?_).trans rfl
  exact lt_trans (clip_lt _) (by norm_num)

/-- The slot row `b` overwrites, as a coordinate. -/
def tgtF (b : Fin 256) : Fin 2048 := ⟨(tgt V0 b).toNat, clip_lt _⟩

/-- Where the row scatter starts on the batch axis: at the first word of the row's pair. -/
theorem sstart3_0 (T : IVec S256x2 32) (b : Fin 256) (d : Fin 64) :
    scatter_S256x2048x64_S256x2_S256x64_1_01_01_1.start (ix2 b d) T 0 = (T (ix2 b 0)).toInt := by
  unfold ScatterDims.start
  rw [dif_pos (by decide)]
  refine congrArg (fun i => (T i).toInt) (funext fun a => ?_)
  match a with
  | ⟨0, _⟩ => rfl
  | ⟨1, _⟩ => rfl

/-- Where it starts on the slot axis: at the second word. -/
theorem sstart3_1 (T : IVec S256x2 32) (b : Fin 256) (d : Fin 64) :
    scatter_S256x2048x64_S256x2_S256x64_1_01_01_1.start (ix2 b d) T 1 = (T (ix2 b 1)).toInt := by
  unfold ScatterDims.start
  rw [dif_pos (by decide)]
  refine congrArg (fun i => (T i).toInt) (funext fun a => ?_)
  match a with
  | ⟨0, _⟩ => rfl
  | ⟨1, _⟩ => rfl

/-- Where it starts on the column axis: at nought. -/
theorem sstart3_2 (T : IVec S256x2 32) (b : Fin 256) (d : Fin 64) :
    scatter_S256x2048x64_S256x2_S256x64_1_01_01_1.start (ix2 b d) T 2 = 0 := by
  unfold ScatterDims.start
  rw [dif_neg (by decide)]

/-- Its window reaches along the column axis only. -/
theorem swindow3 (b : Fin 256) (d : Fin 64) :
    scatter_S256x2048x64_S256x2_S256x64_1_01_01_1.window (ix2 b d) 0 = 0
      ∧ scatter_S256x2048x64_S256x2_S256x64_1_01_01_1.window (ix2 b d) 1 = 0
      ∧ scatter_S256x2048x64_S256x2_S256x64_1_01_01_1.window (ix2 b d) 2 = d.val := by
  refine ⟨?_, ?_, ?_⟩ <;> unfold ScatterDims.window
  · rw [dif_neg (by decide)]
  · rw [dif_neg (by decide)]
  · rw [dif_pos (by decide)]; rfl

/-- Where the flag scatter starts: at the two words of the row's pair. -/
theorem sstart2_0 (T : IVec S256x2 32) (b : Fin 256) :
    scatter_S256x2048_S256x2_S256_n_01_01_1.start (ix1 b) T 0 = (T (ix2 b 0)).toInt := by
  unfold ScatterDims.start
  rw [dif_pos (by decide)]
  refine congrArg (fun i => (T i).toInt) (funext fun a => ?_)
  match a with
  | ⟨0, _⟩ => rfl
  | ⟨1, _⟩ => rfl

/-- The same on the slot axis. -/
theorem sstart2_1 (T : IVec S256x2 32) (b : Fin 256) :
    scatter_S256x2048_S256x2_S256_n_01_01_1.start (ix1 b) T 1 = (T (ix2 b 1)).toInt := by
  unfold ScatterDims.start
  rw [dif_pos (by decide)]
  refine congrArg (fun i => (T i).toInt) (funext fun a => ?_)
  match a with
  | ⟨0, _⟩ => rfl
  | ⟨1, _⟩ => rfl

/-- Its window is a single element. -/
theorem swindow2 (b : Fin 256) :
    scatter_S256x2048_S256x2_S256_n_01_01_1.window (ix1 b) 0 = 0 ∧ scatter_S256x2048_S256x2_S256_n_01_01_1.window (ix1 b) 1 = 0 := by
  refine ⟨?_, ?_⟩ <;> unfold ScatterDims.window <;> rw [dif_neg (by decide)]

/-- Where the row gather starts: at the two words of the row's pair, within the operand. -/
theorem gstart3_0 (T : IVec S256x2 32) (b : Fin 256) (d : Fin 64) :
    gather_S256x2048x64_S256x2_S256x64_1_01_n_n_01_1_1164.start (ix2 b d) T 0 = min (T (ix2 b 0)).toInt.toNat 255 := by
  unfold GatherDims.start
  rw [dif_pos (by decide)]
  refine congrArg (fun i => min (T i).toInt.toNat 255) (funext fun a => ?_)
  match a with
  | ⟨0, _⟩ => rfl
  | ⟨1, _⟩ => rfl

/-- The same on the slot axis. -/
theorem gstart3_1 (T : IVec S256x2 32) (b : Fin 256) (d : Fin 64) :
    gather_S256x2048x64_S256x2_S256x64_1_01_n_n_01_1_1164.start (ix2 b d) T 1 = min (T (ix2 b 1)).toInt.toNat 2047 := by
  unfold GatherDims.start
  rw [dif_pos (by decide)]
  refine congrArg (fun i => min (T i).toInt.toNat 2047) (funext fun a => ?_)
  match a with
  | ⟨0, _⟩ => rfl
  | ⟨1, _⟩ => rfl

/-- Where the flag gather starts: at the two words of the row's pair, within the operand. -/
theorem gstart2_0 (T : IVec S256x2 32) (b : Fin 256) :
    gather_S256x2048_S256x2_S256_n_01_n_n_01_1_11.start (ix1 b) T 0 = min (T (ix2 b 0)).toInt.toNat 255 := by
  unfold GatherDims.start
  rw [dif_pos (by decide)]
  refine congrArg (fun i => min (T i).toInt.toNat 255) (funext fun a => ?_)
  match a with
  | ⟨0, _⟩ => rfl
  | ⟨1, _⟩ => rfl

/-- The same on the slot axis. -/
theorem gstart2_1 (T : IVec S256x2 32) (b : Fin 256) :
    gather_S256x2048_S256x2_S256_n_01_n_n_01_1_11.start (ix1 b) T 1 = min (T (ix2 b 1)).toInt.toNat 2047 := by
  unfold GatherDims.start
  rw [dif_pos (by decide)]
  refine congrArg (fun i => min (T i).toInt.toNat 2047) (funext fun a => ?_)
  match a with
  | ⟨0, _⟩ => rfl
  | ⟨1, _⟩ => rfl

/-- The first word of pair `b`, read signed. -/
theorem pairs_0_toInt (b : Fin 256) : (pairs V0 (ix2 b 0)).toInt = (b.val : Int) := by
  have hb := b.isLt
  rw [pairs_0, BitVec.toInt_eq_toNat_cond, BitVec.toNat_ofNat, Nat.mod_eq_of_lt (by omega), if_pos (by omega)]

/-- The second word of pair `b`, read signed. -/
theorem pairs_1_toInt (b : Fin 256) : (pairs V0 (ix2 b 1)).toInt = ((tgtF V0 b).val : Int) := by
  rw [pairs_1, tgt, clip_toInt_eq]; rfl

/-- An update of the row scatter lands on the row's own batch and slot, at the column it came from. -/
theorem lands3 (b b' : Fin 256) (n : Fin 2048) (d d' : Fin 64) :
    scatter_S256x2048x64_S256x2_S256x64_1_01_01_1.resultIdx? (ix2 b' d') (pairs V0) = some (ix3 b n d)
      ↔ b' = b ∧ tgtF V0 b' = n ∧ d' = d := by
  have h0 := sstart3_0 (pairs V0) b' d'
  have h1 := sstart3_1 (pairs V0) b' d'
  have h2 := sstart3_2 (pairs V0) b' d'
  rw [pairs_0_toInt] at h0
  rw [pairs_1_toInt] at h1
  obtain ⟨w0, w1, w2⟩ := swindow3 b' d'
  rw [resultIdx?_eq_some]
  generalize pairs V0 = T at h0 h1 h2 ⊢
  have key : (∀ a, scatter_S256x2048x64_S256x2_S256x64_1_01_01_1.start (ix2 b' d') T a
        + (scatter_S256x2048x64_S256x2_S256x64_1_01_01_1.window (ix2 b' d') a : Int) = (((ix3 b n d : S256x2048x64.Idx) a).val : Int))
      ↔ ((b'.val : Int) + ((0 : Nat) : Int) = b.val ∧ ((tgtF V0 b').val : Int) + ((0 : Nat) : Int) = n.val ∧ (0 : Int) + (d'.val : Int) = d.val) := by
    rw [← h0, ← h1, ← h2, ← w2]
    refine ⟨fun h => ⟨by have := h 0; rw [w0] at this; exact this, by have := h 1; rw [w1] at this; exact this, h 2⟩, fun h a => ?_⟩
    match a with
    | ⟨0, _⟩ => exact (congrArg (fun k : Nat => scatter_S256x2048x64_S256x2_S256x64_1_01_01_1.start (ix2 b' d') T 0 + (k : Int)) w0).trans h.1
    | ⟨1, _⟩ => exact (congrArg (fun k : Nat => scatter_S256x2048x64_S256x2_S256x64_1_01_01_1.start (ix2 b' d') T 1 + (k : Int)) w1).trans h.2.1
    | ⟨2, _⟩ => exact h.2.2
  rw [key, Fin.ext_iff, Fin.ext_iff, Fin.ext_iff]
  omega

/-- An update of a flag scatter lands on the row's own batch and slot. -/
theorem lands2 (b b' : Fin 256) (n : Fin 2048) :
    scatter_S256x2048_S256x2_S256_n_01_01_1.resultIdx? (ix1 b') (pairs V0) = some (ix2 b n) ↔ b' = b ∧ tgtF V0 b' = n := by
  have h0 := sstart2_0 (pairs V0) b'
  have h1 := sstart2_1 (pairs V0) b'
  rw [pairs_0_toInt] at h0
  rw [pairs_1_toInt] at h1
  obtain ⟨w0, w1⟩ := swindow2 b'
  rw [resultIdx?_eq_some]
  generalize pairs V0 = T at h0 h1 ⊢
  have key : (∀ a, scatter_S256x2048_S256x2_S256_n_01_01_1.start (ix1 b') T a
        + (scatter_S256x2048_S256x2_S256_n_01_01_1.window (ix1 b') a : Int) = (((ix2 b n : S256x2048.Idx) a).val : Int))
      ↔ ((b'.val : Int) + ((0 : Nat) : Int) = b.val ∧ ((tgtF V0 b').val : Int) + ((0 : Nat) : Int) = n.val) := by
    rw [← h0, ← h1]
    refine ⟨fun h => ⟨by have := h 0; rw [w0] at this; exact this, by have := h 1; rw [w1] at this; exact this⟩, fun h a => ?_⟩
    match a with
    | ⟨0, _⟩ => exact (congrArg (fun k : Nat => scatter_S256x2048_S256x2_S256_n_01_01_1.start (ix1 b') T 0 + (k : Int)) w0).trans h.1
    | ⟨1, _⟩ => exact (congrArg (fun k : Nat => scatter_S256x2048_S256x2_S256_n_01_01_1.start (ix1 b') T 1 + (k : Int)) w1).trans h.2
  rw [key, Fin.ext_iff, Fin.ext_iff]
  omega

/-- The gathered row of batch `b` is the row of the slot it overwrites. -/
theorem gather3 {α : Type} (x : S256x2048x64.Idx → α) (b : Fin 256) (d : Fin 64) :
    Host.gather gather_S256x2048x64_S256x2_S256x64_1_01_n_n_01_1_1164 x (pairs V0) (ix2 b d) = x (ix3 b (tgtF V0 b) d) := by
  have hb := b.isLt
  have ht := (tgtF V0 b).isLt
  have k0 := gstart3_0 (pairs V0) b d
  have k1 := gstart3_1 (pairs V0) b d
  rw [pairs_0_toInt, Int.toNat_natCast, Nat.min_eq_left (by omega)] at k0
  rw [pairs_1_toInt, Int.toNat_natCast, Nat.min_eq_left (by omega)] at k1
  generalize pairs V0 = T at k0 k1 ⊢
  unfold Host.gather
  refine congrArg x (funext fun a => Fin.ext ?_)
  match a with
  | ⟨0, _⟩ => exact k0
  | ⟨1, _⟩ => exact k1
  | ⟨2, _⟩ => exact Nat.zero_add _

/-- The gathered flag of batch `b` is the flag of the slot it overwrites. -/
theorem gather2 {α : Type} (x : S256x2048.Idx → α) (b : Fin 256) :
    Host.gather gather_S256x2048_S256x2_S256_n_01_n_n_01_1_11 x (pairs V0) (ix1 b) = x (ix2 b (tgtF V0 b)) := by
  have hb := b.isLt
  have ht := (tgtF V0 b).isLt
  have k0 := gstart2_0 (pairs V0) b
  have k1 := gstart2_1 (pairs V0) b
  rw [pairs_0_toInt, Int.toNat_natCast, Nat.min_eq_left (by omega)] at k0
  rw [pairs_1_toInt, Int.toNat_natCast, Nat.min_eq_left (by omega)] at k1
  generalize pairs V0 = T at k0 k1 ⊢
  unfold Host.gather
  refine congrArg x (funext fun a => Fin.ext ?_)
  match a with
  | ⟨0, _⟩ => exact k0
  | ⟨1, _⟩ => exact k1

/-- A scatter of rows in which row `b` carries what a mask chooses, `w` where it is set and the row already there where it is not, read at one element. -/
theorem scatter3 {α : Type} (x : S256x2048x64.Idx → α) (u : S256x64.Idx → α) (M : BitVec 1) (w : α) (b : Fin 256) (n : Fin 2048) (d : Fin 64)
    (hu : u (ix2 b d) = Scalar.select M w (x (ix3 b (tgtF V0 b) d))) :
    Host.scatter scatter_S256x2048x64_S256x2_S256x64_1_01_01_1 (fun _ v => v) x (pairs V0) u (ix3 b n d)
      = if tgtF V0 b = n ∧ M = 1#1 then w else x (ix3 b n d) := by
  by_cases h : tgtF V0 b = n
  · subst h
    rw [scatter_set_hit _ x (pairs V0) u (ix3 b (tgtF V0 b) d) (u (ix2 b d)) (fun k hk => ?_) (ix2 b d) ((lands3 V0 b b _ d d).2 ⟨rfl, rfl, rfl⟩), hu]
    · by_cases hM : M = 1#1
      · rw [if_pos ⟨rfl, hM⟩, hM]; rfl
      · rw [if_neg fun q => hM q.2, (bit_of_ne M hM)]; rfl
    · rw [eq_ix2 k] at hk
      obtain ⟨q0, _, q2⟩ := (lands3 V0 b (k 0) _ d (k 1)).1 hk
      rw [eq_ix2 k, q0, q2]
  · rw [if_neg fun q => h q.1]
    refine scatter_set_miss _ x (pairs V0) u (ix3 b n d) fun k hk => ?_
    rw [eq_ix2 k] at hk
    obtain ⟨q0, q1, _⟩ := (lands3 V0 b (k 0) n d (k 1)).1 hk
    rw [q0] at q1
    exact h q1

/-- The same of a scatter of flags. -/
theorem scatter2 {α : Type} (x : S256x2048.Idx → α) (u : S256.Idx → α) (M : BitVec 1) (w : α) (b : Fin 256) (n : Fin 2048)
    (hu : u (ix1 b) = Scalar.select M w (x (ix2 b (tgtF V0 b)))) :
    Host.scatter scatter_S256x2048_S256x2_S256_n_01_01_1 (fun _ v => v) x (pairs V0) u (ix2 b n)
      = if tgtF V0 b = n ∧ M = 1#1 then w else x (ix2 b n) := by
  by_cases h : tgtF V0 b = n
  · subst h
    rw [scatter_set_hit _ x (pairs V0) u (ix2 b (tgtF V0 b)) (u (ix1 b)) (fun k hk => ?_) (ix1 b) ((lands2 V0 b b _).2 ⟨rfl, rfl⟩), hu]
    · by_cases hM : M = 1#1
      · rw [if_pos ⟨rfl, hM⟩, hM]; rfl
      · rw [if_neg fun q => hM q.2, (bit_of_ne M hM)]; rfl
    · rw [eq_ix1 k] at hk
      obtain ⟨q0, _⟩ := (lands2 V0 b (k 0) _).1 hk
      rw [eq_ix1 k, q0]
  · rw [if_neg fun q => h q.1]
    refine scatter_set_miss _ x (pairs V0) u (ix2 b n) fun k hk => ?_
    rw [eq_ix1 k] at hk
    obtain ⟨q0, q1⟩ := (lands2 V0 b (k 0) n).1 hk
    rw [q0] at q1
    exact h q1

end Cert.ReferenceIdeal.Slots

end
-- ==== Proof.Ref2.lean ====
/- The reference's six results, in the terms of the specification. -/
module

public import proofs.«01_k».proof.Proof.Ref

@[expose] public section

set_option maxRecDepth 16384

noncomputable section

namespace Cert.ReferenceIdeal.Slots

open Cert.ReferenceIdeal Cert.ReferenceIdeal.Gen Cert.ReferenceIdeal.Value Cert.Slots
open Idealize.ShloMosaic Idealize.ShloMosaic.TcCoe Idealize.SL.Sem Idealize.ShloMosaic.StableHlo Idealize.ShloMosaic.Routing

variable (V0 : Valuation τ sig (Elt Ideal))

/-- Blending by a bit chooses between the empty row and the mean. -/
theorem blend (u : BitVec 1) (e uv : EReal) :
    (1 - num u) * e + num u * (((1 / 2 : ℝ) : EReal) * e + ((1 / 2 : ℝ) : EReal) * uv) = slotRow False u e uv 0 := by
  unfold slotRow
  rw [if_neg not_false]
  rcases bit_cases u with h | h <;> subst h
  · rw [num_0, if_neg (by decide), sub_zero, one_mul, zero_mul, add_zero]
  · rw [num_1, if_pos rfl, EReal.sub_self (by decide) (by decide), zero_mul, one_mul, zero_add]

/-- The flags before any slot is overwritten: updated or retained. -/
theorem flag (f u r : BitVec 1) : IntOp.ori (IntOp.ori (IntOp.andi 0#1 (~~~f)) u) r = u ||| r := by revert f u r; decide

/-- A choice between nought and nought is nought. -/
theorem select_zero (c : BitVec 1) (x : EReal) (h : x = 0) : Scalar.select c x 0 = 0 := by
  subst h; unfold Scalar.select; split <;> rfl

/-- The same with nought first. -/
theorem select_zero' (c : BitVec 1) (x : EReal) (h : x = 0) : Scalar.select c 0 x = 0 := by
  subst h; unfold Scalar.select; split <;> rfl

/-- The blended rows, before any slot is overwritten. -/
theorem blended (b : Fin 256) (n : Fin 2048) (d : Fin 64) :
    (res_main_v31 V0 : FVec Ideal S256x2048x64 .f32) (ix3 b n d)
      = slotRow False (V0 (Proc.devRef .tc main_arg4) (ix2 b n)) (V0 (Proc.devRef .tc main_arg0) (ix1 d)) (V0 (Proc.devRef .tc main_arg1) (ix2 b d)) 0 := by
  unfold res_main_v31 res_main_v17 res_main_v9
  pointwise
  rw [ofBits_half]
  exact blend _ _ _

/-- The memory the step leaves: each slot's row. -/
theorem mem (b : Fin 256) (n : Fin 2048) (d : Fin 64) :
    (val4 V0 (Proc.devRef .tc main_v67) : FVec Ideal S256x2048x64 .f32) (ix3 b n d)
      = slotRow (tgtF V0 b = n ∧ V0 (Proc.devRef .tc main_arg6) (ix1 b) = 1#1) (V0 (Proc.devRef .tc main_arg4) (ix2 b n)) (V0 (Proc.devRef .tc main_arg0) (ix1 d))
          (V0 (Proc.devRef .tc main_arg1) (ix2 b d)) (V0 (Proc.devRef .tc main_arg2) (ix2 b d)) := by
  rw [val4_main_v67]
  refine (scatter3 V0 _ _ (V0 (Proc.devRef .tc main_arg6) (ix1 b)) (V0 (Proc.devRef .tc main_arg2) (ix2 b d)) b n d ?_).trans ?_
  · pointwise
    exact congrArg _ (gather3 V0 (res_main_v31 V0) b d)
  · rw [blended]
    unfold slotRow
    rw [if_neg not_false]

/-- Whether slot `n` of row `b` is alive after the step. -/
def aliveBit (b : Fin 256) (n : Fin 2048) : BitVec 1 :=
  alive (tgtF V0 b = n ∧ V0 (Proc.devRef .tc main_arg6) (ix1 b) = 1#1) (V0 (Proc.devRef .tc main_arg4) (ix2 b n)) (V0 (Proc.devRef .tc main_arg3) (ix2 b n))

/-- The alive flags. -/
theorem alive_flags (b : Fin 256) (n : Fin 2048) : (res_main_v96 V0 : IVec S256x2048 1) (ix2 b n) = aliveBit V0 b n := by
  unfold res_main_v96
  refine (scatter2 V0 _ _ (V0 (Proc.devRef .tc main_arg6) (ix1 b)) 1#1 b n ?_).trans ?_
  · pointwise
    exact congrArg _ (gather2 V0 (res_main_v35 V0) b)
  · unfold aliveBit alive
    refine ite_congr rfl (fun _ => rfl) fun _ => ?_
    unfold res_main_v35 res_main_v4
    pointwise
    exact flag _ _ _

/-- The utilization: the share of the slots that are alive. -/
theorem util (i : S_.Idx) : (show FVec Ideal S_ .f32 from val4 V0 (Proc.devRef .tc main_v157)) i = share (count (aliveBit V0)) 524288 := by
  rw [val4_main_v157]
  pointwise
  rw [ofBits_slots, ← div_share _ _ (by decide), ← sum_num]
  simp only [alive_flags]
  rfl

/-- The ages before any slot is overwritten: nought. -/
theorem ages (b : Fin 256) (n : Fin 2048) : (show FVec Ideal S256x2048 .f32 from res_main_v34 V0) (ix2 b n) = 0 := by
  unfold res_main_v34 res_main_v4
  pointwise
  exact select_zero' _ _ (select_zero' _ _ num_0)

/-- The ages after the step. -/
def ageTable : FVec Ideal S256x2048 .f32 :=
  Host.scatter scatter_S256x2048_S256x2_S256_n_01_01_1 (fun _ v => v) (res_main_v34 V0) (pairs V0)
    (select (V0 (Proc.devRef .tc main_arg6)) (broadcastInDim S256 ![] bcast_S_S256 (id (constant S_ .f32 0x00000000#32)))
      (Host.gather gather_S256x2048_S256x2_S256_n_01_n_n_01_1_11 (res_main_v34 V0) (pairs V0)))

/-- They are nought too. -/
theorem ageTable_zero (b : Fin 256) (n : Fin 2048) : ageTable V0 (ix2 b n) = 0 := by
  unfold ageTable
  refine (scatter2 (α := EReal) V0 (res_main_v34 V0) _ (V0 (Proc.devRef .tc main_arg6) (ix1 b)) 0 b n ?_).trans ?_
  · pointwise [id]
    rw [gather2]
  · split
    · rfl
    · exact ages V0 b n

/-- A mean of noughts over a count kept off zero is nought. -/
theorem mean_zero (A : Fin 256 → Fin 2048 → BitVec 1) (S : Fin 256 → Fin 2048 → EReal) (hS : ∀ b n, S b n = 0) (r : ℝ) (hr : 0 < r) :
    Ideal.div (∑ b, ∑ n, Scalar.select (A b n) (S b n) 0) ((∑ b, ∑ n, num (A b n)) + (r : EReal)) = 0 := by
  rw [Finset.sum_eq_zero fun b _ => Finset.sum_eq_zero fun n _ => select_zero _ _ (hS b n), sum_num, ← EReal.coe_add,
    Ideal.div_coe (by positivity), zero_mul]

/-- The mean age is the sum of the live slots' ages over their number. -/
theorem age_eq : val4 V0 (Proc.devRef .tc main_v164)
    = Host.divf (Host.reduceAdd (select (res_main_v96 V0) (ageTable V0) (broadcastInDim S256x2048 ![] bcast_S_S256x2048 (constant S_ .f32 0x00000000#32))) (constant S_ .f32 0x00000000#32) reducesTo_S256x2048_S_d0_1 h_S_)
        (addf (Host.reduceAdd (uitofp .f32 (res_main_v96 V0)) (constant S_ .f32 0x00000000#32) reducesTo_S256x2048_S_d0_1 h_S_) (constant S_ .f32 0x358637BD#32)) :=
  (val4_main_v164 V0).trans (by unfold ageTable pairs; rfl)

/-- The sum of the live slots' ages. -/
theorem age_sum (T : FVec Ideal S256x2048 .f32) (i : S_.Idx) :
    Host.reduceAdd (select (res_main_v96 V0) T (broadcastInDim S256x2048 ![] bcast_S_S256x2048 (constant S_ .f32 0x00000000#32))) (constant S_ .f32 0x00000000#32) reducesTo_S256x2048_S_d0_1 h_S_ i
      = ∑ b, ∑ n, Scalar.select (aliveBit V0 b n) (T (ix2 b n)) 0 := by
  pointwise
  simp only [alive_flags]

/-- The number of live slots. -/
theorem alive_sum (i : S_.Idx) :
    Host.reduceAdd (uitofp (F := Ideal) .f32 (res_main_v96 V0)) (constant S_ .f32 0x00000000#32) reducesTo_S256x2048_S_d0_1 h_S_ i
      = ∑ b, ∑ n, num (aliveBit V0 b n) := by
  pointwise
  simp only [alive_flags]
  rfl

/-- A quotient by a sum, read at its one element. -/
theorem div_add_at (X Y Z : FVec Ideal S_ .f32) (i : S_.Idx) : Host.divf X (addf Y Z) i = Ideal.div (X i) (Y i + Z i) := rfl

/-- The mean age is nought: every slot's age is nought after the step. -/
theorem age (i : S_.Idx) : (show FVec Ideal S_ .f32 from val4 V0 (Proc.devRef .tc main_v164)) i = 0 := by
  rw [age_eq]
  obtain ⟨r, hr, e⟩ := ofBits_eps
  refine (div_add_at _ _ _ i).trans ?_
  rw [age_sum, alive_sum]
  refine (congrArg (fun x : EReal => Ideal.div _ (_ + x)) e).trans ?_
  exact mean_zero (aliveBit V0) (fun b n => ageTable V0 (ix2 b n)) (ageTable_zero V0) r hr

/-- The share of the rows that overwrite a slot. -/
theorem writes (i : S_.Idx) : (show FVec Ideal S_ .f32 from val4 V0 (Proc.devRef .tc main_v167)) i
    = share (∑ b, (V0 (Proc.devRef .tc main_arg6) (ix1 b) : BitVec 1).toNat) 256 := by
  rw [val4_main_v167]
  pointwise
  rw [ofBits_rows, ← div_share _ _ (by decide), ← sum_num1]
  rfl

/-- The share of the slots updated. -/
theorem updates (i : S_.Idx) : (show FVec Ideal S_ .f32 from val4 V0 (Proc.devRef .tc main_v170)) i
    = share (count fun b n => (V0 (Proc.devRef .tc main_arg4) (ix2 b n) : BitVec 1)) 524288 := by
  rw [val4_main_v170]
  pointwise
  rw [ofBits_slots, ← div_share _ _ (by decide), ← sum_num]
  rfl

/-- The share of the slots forgotten. -/
theorem forgets (i : S_.Idx) : (show FVec Ideal S_ .f32 from val4 V0 (Proc.devRef .tc main_v173)) i
    = share (count fun b n => (V0 (Proc.devRef .tc main_arg5) (ix2 b n) : BitVec 1)) 524288 := by
  rw [val4_main_v173]
  pointwise
  rw [ofBits_slots, ← div_share _ _ (by decide), ← sum_num]
  rfl

end Cert.ReferenceIdeal.Slots

end
-- ==== Proof.Final.lean ====
/- The two programs' runs, each ending at the same six results. -/
module

public import proofs.«01_k».proof.Proof.Stats
public import proofs.«01_k».proof.Proof.Ref2
import Idealize.ShloMosaic.Lib.Pointwise
import Idealize.ShloMosaic.Lib.Tactic
public import Idealize.ShloMosaic.Lib.Pipeline.ValueKit

@[expose] public section

set_option maxRecDepth 16384

noncomputable section

namespace Cert.KernelIdeal.Slots

open Cert.KernelIdeal Cert.KernelIdeal.Gen Cert.Slots Idealize.ShloMosaic Idealize.ShloMosaic.TcCoe Idealize.SL.Sem

/-- The first statistic after the last lines: lane 0. -/
theorem tail_v14 (σ : Valuation τ sig (Elt Ideal)) : StableHlo.after [hostOps1].flatten σ (Proc.devRef .tc main_v14)
    = shapeCast S_ (extractStridedSlice S1x1 ![0, 0] (show FVec Ideal S1x128 .f32 from σ (Proc.devRef .tc main_v12_1)) slices_S1x128_S1x1_0_0) shapeCasts_S1x1_S_ := by sl_kernel_rfl

/-- The second: lane 1. -/
theorem tail_v16 (σ : Valuation τ sig (Elt Ideal)) : StableHlo.after [hostOps1].flatten σ (Proc.devRef .tc main_v16)
    = shapeCast S_ (extractStridedSlice S1x1 ![0, 1] (show FVec Ideal S1x128 .f32 from σ (Proc.devRef .tc main_v12_1)) slices_S1x128_S1x1_0_1) shapeCasts_S1x1_S_ := by sl_kernel_rfl

/-- The third: lane 2. -/
theorem tail_v18 (σ : Valuation τ sig (Elt Ideal)) : StableHlo.after [hostOps1].flatten σ (Proc.devRef .tc main_v18)
    = shapeCast S_ (extractStridedSlice S1x1 ![0, 2] (show FVec Ideal S1x128 .f32 from σ (Proc.devRef .tc main_v12_1)) slices_S1x128_S1x1_0_2) shapeCasts_S1x1_S_ := by sl_kernel_rfl

/-- The fourth: lane 3. -/
theorem tail_v20 (σ : Valuation τ sig (Elt Ideal)) : StableHlo.after [hostOps1].flatten σ (Proc.devRef .tc main_v20)
    = shapeCast S_ (extractStridedSlice S1x1 ![0, 3] (show FVec Ideal S1x128 .f32 from σ (Proc.devRef .tc main_v12_1)) slices_S1x128_S1x1_0_3) shapeCasts_S1x1_S_ := by sl_kernel_rfl

/-- The fifth: lane 4. -/
theorem tail_v22 (σ : Valuation τ sig (Elt Ideal)) : StableHlo.after [hostOps1].flatten σ (Proc.devRef .tc main_v22)
    = shapeCast S_ (extractStridedSlice S1x1 ![0, 4] (show FVec Ideal S1x128 .f32 from σ (Proc.devRef .tc main_v12_1)) slices_S1x128_S1x1_0_4) shapeCasts_S1x1_S_ := by sl_kernel_rfl

/-- A lane cut out of the statistics and given as a number. -/
theorem lane_cut (v : FVec Ideal S1x128 .f32) (k : Fin 128) (h : S1x128.Slices ![0, k.val] S1x1) (x : EReal) (hx : v (ix2 0 k) = x) :
    shapeCast S_ (extractStridedSlice S1x1 ![0, k.val] v h) shapeCasts_S1x1_S_ = (fun _ => x : FVec Ideal S_ .f32) := by
  funext i
  pointwise
  refine Eq.trans ?_ hx
  exact congrArg v (congrArg (ix2 0) (Fin.ext (by simp)))

variable (m : (ℓ : Loc nD τ sig) → Buf (Elt Ideal) ℓ) (g : Dev nD → PrngReg)

/-- What the last lines find: the arrays as the region leaves them. -/
def found (c : Dev nD) : Valuation τ sig (Elt Ideal) :=
  Pipeline.withArrays (cfgs 0).spec c (V0 m c) (fun w => (dats m 0 c).arrAt w (cfgs 0).N)

/-- The statistics as the last lines find them. -/
theorem found_at (c : Dev nD) (k : Fin 128) (x : EReal) (hx : (show FVec Ideal S1x128 .f32 from (outsAt0 m c t0_15.val t0_15.isLt).2) (ix2 0 k) = x) :
    (show FVec Ideal S1x128 .f32 from found m c (Proc.devRef .tc main_v12_1)) (ix2 0 k) = x := by
  have h : found m c (Proc.devRef .tc main_v12_1) = (outsAt0 m c t0_15.val t0_15.isLt).2 :=
    (Pipeline.withArrays_arr (cfgs 0).spec winFacts0.arr_inj c (V0 m c) (fun w => (dats m 0 c).arrAt w (cfgs 0).N) 11).trans (stats_array m c)
  exact (congrFun h (ix2 0 k)).trans hx

/-- The kernel's run: its six results, of its arguments. -/
theorem kernel_run (er : Dev nD → Fin 64 → ℝ) (he : ∀ c d, emptyRow m c d = (er c d : EReal)) :
    θ_run defs (onTc (τ := τ) (main (F := Ideal))) ⟨m, fun _ => 0, g⟩ (fun r => ∀ c : Dev nD,
      r.2.mem ((c.tc : Thread nD τ).loc main_v12_0) = (fun i => newRow m c (i 0) (i 1) (i 2) : FVec Ideal S256x2048x64 .f32)
      ∧ r.2.mem ((c.tc : Thread nD τ).loc main_v14) = (fun _ => share (count (aliveAt m c)) 524288 : FVec Ideal S_ .f32)
      ∧ r.2.mem ((c.tc : Thread nD τ).loc main_v16) = (fun _ => 0 : FVec Ideal S_ .f32)
      ∧ r.2.mem ((c.tc : Thread nD τ).loc main_v18) = (fun _ => share (∑ b, (flag m c b).toNat) 256 : FVec Ideal S_ .f32)
      ∧ r.2.mem ((c.tc : Thread nD τ).loc main_v20) = (fun _ => share (count (updated m c)) 524288 : FVec Ideal S_ .f32)
      ∧ r.2.mem ((c.tc : Thread nD τ).loc main_v22) = (fun _ => share (count (forgotten m c)) 524288 : FVec Ideal S_ .f32)) := by
  refine (θ_run defs _ _).mono (fun r h c => ⟨?_, ?_, ?_, ?_, ?_, ?_⟩) (run_main m g)
  · exact ((h c).1 10).trans (memory_array m c (er c) (he c))
  · exact ((h c).2 main_v14 (Pipeline.mem_restRefs_of main_v14 (by decide) (by decide))).trans ((tail_v14 (found m c)).trans (lane_cut _ 0 _ _ (found_at m c 0 _ (final_alive m c))))
  · exact ((h c).2 main_v16 (Pipeline.mem_restRefs_of main_v16 (by decide) (by decide))).trans ((tail_v16 (found m c)).trans (lane_cut _ 1 _ _ (found_at m c 1 _ (final_age m c))))
  · exact ((h c).2 main_v18 (Pipeline.mem_restRefs_of main_v18 (by decide) (by decide))).trans ((tail_v18 (found m c)).trans (lane_cut _ 2 _ _ (found_at m c 2 _ (final_writes m c))))
  · exact ((h c).2 main_v20 (Pipeline.mem_restRefs_of main_v20 (by decide) (by decide))).trans ((tail_v20 (found m c)).trans (lane_cut _ 3 _ _ (found_at m c 3 _ (final_updates m c))))
  · exact ((h c).2 main_v22 (Pipeline.mem_restRefs_of main_v22 (by decide) (by decide))).trans ((tail_v22 (found m c)).trans (lane_cut _ 4 _ _ (found_at m c 4 _ (final_forgets m c))))

end Cert.KernelIdeal.Slots

end
-- ==== Proof.Compare.lean ====
/- The reference's six results are the kernel's, from memories that agree on the arguments; and what the precondition says. -/
module

public import proofs.«01_k».proof.Proof.Final
public import proofs.«01_k».proof.Pre_finite_empty
public import Idealize.ShloMosaic.Lib.ReduceAll
import Idealize.ShloMosaic.Lib.Pointwise
import Idealize.ShloMosaic.Lib.Tactic

@[expose] public section

set_option maxRecDepth 16384

noncomputable section

namespace Cert.Slots

open Idealize.ShloMosaic

/-- The precondition's shape relations hold. -/
theorem pre_facts : Cert.Pre_finite_empty.Facts := ⟨by decide, by decide, by decide⟩

/-- A number whose absolute value compares below infinity is a real. -/
theorem real_of_lt (x : EReal) (h : FloatOps.cmpf (F := Ideal) (φ := .f32) .olt (FloatOps.absf (F := Ideal) (φ := .f32) x) (Ideal.ofBits .f32 0x7F800000#32) = 1#1) : ∃ r : ℝ, x = (r : EReal) := by
  have ht : Ideal.ofBits .f32 0x7F800000#32 = ⊤ := by simp [Ideal.ofBits, Ideal.ieee]
  have hl : max x (-x) < ⊤ := by
    rw [ht] at h
    by_contra hc
    have h' : BitVec.ofBool (decide (max x (-x) < ⊤)) = 1#1 := h
    rw [decide_eq_false hc] at h'
    exact absurd h' (by decide)
  induction x using EReal.rec with
  | bot => exact absurd hl (by simp)
  | top => exact absurd hl (by simp)
  | coe r => exact ⟨r, rfl⟩

/-- The precondition says that each entry of the empty row is a real. -/
theorem real_empty [Cert.Pre_finite_empty.Facts] (a0 : FVec Ideal Cert.Pre_finite_empty.S64 .f32) (a1 a2 : FVec Ideal Cert.Pre_finite_empty.S256x64 .f32)
    (a3 a4 a5 : IVec Cert.Pre_finite_empty.S256x2048 1) (a6 : IVec Cert.Pre_finite_empty.S256 1) (a7 : IVec Cert.Pre_finite_empty.S256 32)
    (h : Cert.Pre_finite_empty.fn a0 a1 a2 a3 a4 a5 a6 a7 = fun _ => 1#1) (d : Fin 64) : ∃ r : ℝ, a0 (ix1 d) = (r : EReal) := by
  have hs : Subsingleton Cert.Pre_finite_empty.S_.Idx := ⟨fun a b => funext fun k => k.elim0⟩
  have h0 := congrFun h ix0
  have h1 := Host.reduce_andi_all _ _ _ _ ix0 h0 (ix1 d)
  exact real_of_lt (a0 (ix1 d)) h1

end Cert.Slots

namespace Cert.ReferenceIdeal.Slots

open Cert.ReferenceIdeal Cert.ReferenceIdeal.Value Cert.Slots
open Idealize.ShloMosaic Idealize.ShloMosaic.TcCoe Idealize.SL.Sem Idealize.ShloMosaic.StableHlo
open Cert.KernelIdeal.Slots (newRow aliveAt updated forgotten retained emptyRow updateRow writeRow slotWord)

variable (m : (ℓ : Loc Cert.KernelIdeal.nD Cert.KernelIdeal.τ Cert.KernelIdeal.sig) → Buf (Elt Ideal) ℓ)
variable (m' : (ℓ : Loc nD τ sig) → Buf (Elt Ideal) ℓ) (g' : Dev nD → PrngReg)

/-- The reference's run: the same six results, of the kernel's arguments. -/
theorem reference_run
    (hagree : ∀ c : Dev Cert.KernelIdeal.nD,
      m' ((c.tc : Thread nD τ).loc main_arg0) = m ((c.tc : Thread Cert.KernelIdeal.nD Cert.KernelIdeal.τ).loc Cert.KernelIdeal.main_arg0)
      ∧ m' ((c.tc : Thread nD τ).loc main_arg1) = m ((c.tc : Thread Cert.KernelIdeal.nD Cert.KernelIdeal.τ).loc Cert.KernelIdeal.main_arg1)
      ∧ m' ((c.tc : Thread nD τ).loc main_arg2) = m ((c.tc : Thread Cert.KernelIdeal.nD Cert.KernelIdeal.τ).loc Cert.KernelIdeal.main_arg2)
      ∧ m' ((c.tc : Thread nD τ).loc main_arg3) = m ((c.tc : Thread Cert.KernelIdeal.nD Cert.KernelIdeal.τ).loc Cert.KernelIdeal.main_arg3)
      ∧ m' ((c.tc : Thread nD τ).loc main_arg4) = m ((c.tc : Thread Cert.KernelIdeal.nD Cert.KernelIdeal.τ).loc Cert.KernelIdeal.main_arg4)
      ∧ m' ((c.tc : Thread nD τ).loc main_arg5) = m ((c.tc : Thread Cert.KernelIdeal.nD Cert.KernelIdeal.τ).loc Cert.KernelIdeal.main_arg5)
      ∧ m' ((c.tc : Thread nD τ).loc main_arg6) = m ((c.tc : Thread Cert.KernelIdeal.nD Cert.KernelIdeal.τ).loc Cert.KernelIdeal.main_arg6)
      ∧ m' ((c.tc : Thread nD τ).loc main_arg7) = m ((c.tc : Thread Cert.KernelIdeal.nD Cert.KernelIdeal.τ).loc Cert.KernelIdeal.main_arg7)) :
    θ_run defs (onTc (τ := τ) (main (F := Ideal))) ⟨m', fun _ => 0, g'⟩ (fun r => ∀ c : Dev nD,
      r.2.mem ((c.tc : Thread nD τ).loc main_v67) = (fun i => newRow m c (i 0) (i 1) (i 2) : FVec Ideal S256x2048x64 .f32)
      ∧ r.2.mem ((c.tc : Thread nD τ).loc main_v157) = (fun _ => share (count (aliveAt m c)) 524288 : FVec Ideal S_ .f32)
      ∧ r.2.mem ((c.tc : Thread nD τ).loc main_v164) = (fun _ => 0 : FVec Ideal S_ .f32)
      ∧ r.2.mem ((c.tc : Thread nD τ).loc main_v167) = (fun _ => share (∑ b, (Cert.KernelIdeal.Slots.flag m c b).toNat) 256 : FVec Ideal S_ .f32)
      ∧ r.2.mem ((c.tc : Thread nD τ).loc main_v170) = (fun _ => share (count (updated m c)) 524288 : FVec Ideal S_ .f32)
      ∧ r.2.mem ((c.tc : Thread nD τ).loc main_v173) = (fun _ => share (count (forgotten m c)) 524288 : FVec Ideal S_ .f32)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) := by
  refine (θ_run defs _ _).mono (fun r h c => ?_) (run m' g')
  obtain ⟨r0, r1, r2, r3, r4, r5, rest⟩ := h c
  obtain ⟨a0, a1, a2, a3, a4, a5, a6, a7⟩ := hagree c
  have e0 : ∀ d, (launchContents m' c (Proc.devRef .tc main_arg0) : FVec Ideal S64 .f32) (ix1 d) = emptyRow m c d := fun d => congrFun a0 (ix1 d)
  have e1 : ∀ b d, (launchContents m' c (Proc.devRef .tc main_arg1) : FVec Ideal S256x64 .f32) (ix2 b d) = updateRow m c b d := fun b d => congrFun a1 (ix2 b d)
  have e2 : ∀ b d, (launchContents m' c (Proc.devRef .tc main_arg2) : FVec Ideal S256x64 .f32) (ix2 b d) = writeRow m c b d := fun b d => congrFun a2 (ix2 b d)
  have e3 : ∀ b n, (launchContents m' c (Proc.devRef .tc main_arg3) : IVec S256x2048 1) (ix2 b n) = retained m c b n := fun b n => congrFun a3 (ix2 b n)
  have e4 : ∀ b n, (launchContents m' c (Proc.devRef .tc main_arg4) : IVec S256x2048 1) (ix2 b n) = updated m c b n := fun b n => congrFun a4 (ix2 b n)
  have e5 : ∀ b n, (launchContents m' c (Proc.devRef .tc main_arg5) : IVec S256x2048 1) (ix2 b n) = forgotten m c b n := fun b n => congrFun a5 (ix2 b n)
  have e6 : ∀ b, (launchContents m' c (Proc.devRef .tc main_arg6) : IVec S256 1) (ix1 b) = Cert.KernelIdeal.Slots.flag m c b := fun b => congrFun a6 (ix1 b)
  have e7 : ∀ b, (tgtF (launchContents m' c) b).val = (clip (slotWord m c b)).toNat := fun b => congrArg (fun w : BitVec 32 => (clip w).toNat) (congrFun a7 (ix1 b))
  have ho : ∀ b n, (tgtF (launchContents m' c) b = n ∧ (launchContents m' c (Proc.devRef .tc main_arg6) : IVec S256 1) (ix1 b) = 1#1) ↔ Cert.KernelIdeal.Slots.Overwrites m c b n := fun b n => by
    rw [e6, Fin.ext_iff, e7]
  refine ⟨(r0.trans (val4_main_v67 (launchContents m' c)).symm).trans (funext fun i => ?_), (r1.trans (val4_main_v157 (launchContents m' c)).symm).trans (funext fun i => (util _ i).trans ?_),
    (r2.trans (val4_main_v164 (launchContents m' c)).symm).trans (funext fun i => age _ i), (r3.trans (val4_main_v167 (launchContents m' c)).symm).trans (funext fun i => (writes _ i).trans ?_),
    (r4.trans (val4_main_v170 (launchContents m' c)).symm).trans (funext fun i => (updates _ i).trans ?_), (r5.trans (val4_main_v173 (launchContents m' c)).symm).trans (funext fun i => (forgets _ i).trans ?_), rest⟩
  · obtain ⟨b, n, d, rfl⟩ : ∃ (b : Fin 256) (n : Fin 2048) (d : Fin 64), i = ix3 b n d := ⟨i 0, i 1, i 2, by funext a; fin_cases a <;> rfl⟩
    refine (mem _ b n d).trans ?_
    rw [e0, e1, e2, e4]
    exact if_congr (ho b n) rfl rfl
  · refine congrArg (fun f => share (count f) 524288) (funext fun b => funext fun n => ?_)
    unfold aliveBit
    rw [e3, e4]
    exact if_congr (ho b n) rfl rfl
  · simp only [e6]
  · simp only [e4]
  · simp only [e5]

end Cert.ReferenceIdeal.Slots

end
-- ==== Proof.lean ====
/- The proof of the certificate's claims: the programs run and leave their arguments alone, and the kernel and the reference,
   read over the extended reals, end with the same six results wherever the empty row is finite. -/
module

public import proofs.«01_k».proof.Defs
public import proofs.«01_k».proof.Proof.Gen.Call
public import proofs.«01_k».proof.Proof.Gen.Call.Frame
public import proofs.«01_k».proof.Proof.Gen.CallIdeal
public import proofs.«01_k».proof.Proof.Gen.CallIdeal.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Compare
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.ShloMosaic.TcCoe Idealize.SL.Sem

/-- The reference runs, leaves its arguments alone, and ends with every counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run Cert.ReferenceIdeal.defs _ _).mono
    (fun r h => ⟨fun c => (h c).2.2.2.2.2.2, sem_eq_zero_of_no_sems (by decide) r.2⟩)
    (Cert.ReferenceIdeal.Value.run m g)

/-- The kernel and the reference end with the same six results. -/
theorem same_results (hp : Cert.Pre_finite_empty.Facts) :
    algebraic_KernelIdeal_ReferenceIdeal_pre_finite_empty (hKernelIdeal := Cert.KernelIdeal.Gen.facts) (hReferenceIdeal := Cert.ReferenceIdeal.Gen.facts) (hPre_finite_empty := hp) := by
  intro m g m' g' hpre hagree
  choose er he using fun c d => Cert.Slots.real_empty _ _ _ _ _ _ _ _ (hpre c) d
  exact ⟨fun c => (fun i => Cert.KernelIdeal.Slots.newRow m c (i 0) (i 1) (i 2) : FVec Ideal Cert.KernelIdeal.S256x2048x64 .f32),
    fun c => (fun _ => Cert.Slots.share (Cert.Slots.count (Cert.KernelIdeal.Slots.aliveAt m c)) 524288 : FVec Ideal Cert.KernelIdeal.S_ .f32),
    fun _ => (fun _ => 0 : FVec Ideal Cert.KernelIdeal.S_ .f32),
    fun c => (fun _ => Cert.Slots.share (∑ b, (Cert.KernelIdeal.Slots.flag m c b).toNat) 256 : FVec Ideal Cert.KernelIdeal.S_ .f32),
    fun c => (fun _ => Cert.Slots.share (Cert.Slots.count (Cert.KernelIdeal.Slots.updated m c)) 524288 : FVec Ideal Cert.KernelIdeal.S_ .f32),
    fun c => (fun _ => Cert.Slots.share (Cert.Slots.count (Cert.KernelIdeal.Slots.forgotten m c)) 524288 : FVec Ideal Cert.KernelIdeal.S_ .f32),
    (θ_run _ _ _).mono (fun r h c => ⟨(h.1 c).1, (h.1 c).2.1, (h.1 c).2.2.1, (h.1 c).2.2.2.1, (h.1 c).2.2.2.2.1, (h.1 c).2.2.2.2.2, h.2 c⟩)
      (θ_run_and (Cert.KernelIdeal.Slots.kernel_run m g er he) (Cert.KernelIdeal.Gen.unchanged m g)),
    Cert.ReferenceIdeal.Slots.reference_run m m' g' hagree⟩

/-- Every claim of the certificate. -/
theorem claim : Cert.Claim := ⟨Cert.KernelIdeal.Gen.facts, Cert.ReferenceIdeal.Gen.facts, Cert.Call.Gen.facts, Cert.CallIdeal.Gen.facts, Cert.Slots.pre_facts,
  fun m g _ => Cert.KernelIdeal.Gen.frame m g, fun m g _ => Cert.KernelIdeal.Gen.frame m g,
  fun m g _ => reference_frame m g, fun m g _ => reference_frame m g,
  fun m g _ => Cert.Call.Gen.frame m g, fun m g _ => Cert.CallIdeal.Gen.frame m g, same_results _, trivial⟩

end Cert.Proof

end
